-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S50000x480 : Shape := ⟨2, ![50000, 480]⟩
abbrev S50000 : Shape := ⟨1, ![50000]⟩
abbrev S1x224x1 : Shape := ⟨3, ![1, 224, 1]⟩
abbrev S1x224 : Shape := ⟨2, ![1, 224]⟩
abbrev S1x128 : Shape := ⟨2, ![1, 128]⟩
abbrev S_ : Shape := ⟨0, ![]⟩

class Facts : Prop where
  bcast_S_S50000x480 : S_.BroadcastsInDim S50000x480 (![] : Fin 0 → Fin S50000x480.rank)
  bcast_S_S50000 : S_.BroadcastsInDim S50000 (![] : Fin 0 → Fin S50000.rank)
  bcast_S_S1x224x1 : S_.BroadcastsInDim S1x224x1 (![] : Fin 0 → Fin S1x224x1.rank)

variable [Facts]

def fn {F : FTy → Type} [FloatOps F] (main_arg0 : FVec F S50000x480 .f32) (main_arg1 : IVec S50000 32) (main_arg2 : FVec F S1x224x1 .f32) (main_arg3 : FVec F S1x224 .f32) (main_arg4 : FVec F S1x128 .f32) : IVec S50000x480 1 × IVec S50000 1 × IVec S50000 1 × IVec S1x224x1 1 :=
  let main_v0 : FVec F S50000x480 .f32 := Host.absf main_arg0
  let main_cst : FVec F S_ .f32 := constant S_ .f32 0x7F800000#32
  let main_v1 : FVec F S50000x480 .f32 := broadcastInDim S50000x480 ![] bcast_S_S50000x480 main_cst
  let main_v2 : IVec S50000x480 1 := cmpf .olt main_v0 main_v1
  let main_c : IVec S_ 32 := constantI S_ 32 0#32
  let main_v3 : IVec S50000 32 := broadcastInDim S50000 ![] bcast_S_S50000 main_c
  let main_v4 : IVec S50000 1 := cmpi .sge main_arg1 main_v3
  let main_c_0 : IVec S_ 32 := constantI S_ 32 512#32
  let main_v5 : IVec S50000 32 := broadcastInDim S50000 ![] bcast_S_S50000 main_c_0
  let main_v6 : IVec S50000 1 := cmpi .slt main_arg1 main_v5
  let main_v7 : FVec F S1x224x1 .f32 := Host.absf main_arg2
  let main_cst_1 : FVec F S_ .f32 := constant S_ .f32 0x7F800000#32
  let main_v8 : FVec F S1x224x1 .f32 := broadcastInDim S1x224x1 ![] bcast_S_S1x224x1 main_cst_1
  let main_v9 : IVec S1x224x1 1 := cmpf .olt main_v7 main_v8
  (main_v2, main_v4, main_v6, main_v9)
-- ==== Kernel.lean ====
abbrev S50000x480 : Shape := ⟨2, ![50000, 480]⟩
abbrev S50000 : Shape := ⟨1, ![50000]⟩
abbrev S1x224x1 : Shape := ⟨3, ![1, 224, 1]⟩
abbrev S1x224 : Shape := ⟨2, ![1, 224]⟩
abbrev S1x128 : Shape := ⟨2, ![1, 128]⟩
abbrev S480x224 : Shape := ⟨2, ![480, 224]⟩
abbrev S224x480 : Shape := ⟨2, ![224, 480]⟩
abbrev S480 : Shape := ⟨1, ![480]⟩
abbrev S224 : Shape := ⟨1, ![224]⟩
abbrev S25x1x2000 : Shape := ⟨3, ![25, 1, 2000]⟩
abbrev S1x1x1x224 : Shape := ⟨4, ![1, 1, 1, 224]⟩
abbrev S8x1x1x224 : Shape := ⟨4, ![8, 1, 1, 224]⟩
abbrev S8x224 : Shape := ⟨2, ![8, 224]⟩
abbrev S_ : Shape := ⟨0, ![]⟩
abbrev S480x1 : Shape := ⟨2, ![480, 1]⟩
abbrev S1x480 : Shape := ⟨2, ![1, 480]⟩
abbrev S1x1x1x480 : Shape := ⟨4, ![1, 1, 1, 480]⟩
abbrev S8x1x1x480 : Shape := ⟨4, ![8, 1, 1, 480]⟩
abbrev S8x480 : Shape := ⟨2, ![8, 480]⟩
abbrev S1x352 : Shape := ⟨2, ![1, 352]⟩
abbrev S512x480 : Shape := ⟨2, ![512, 480]⟩
abbrev S1x1x2000 : Shape := ⟨3, ![1, 1, 2000]⟩
abbrev S2000x480 : Shape := ⟨2, ![2000, 480]⟩
abbrev S512x128 : Shape := ⟨2, ![512, 128]⟩
abbrev S2000 : Shape := ⟨1, ![2000]⟩
abbrev S512x2000 : Shape := ⟨2, ![512, 2000]⟩
abbrev S1x2000 : Shape := ⟨2, ![1, 2000]⟩
abbrev S512 : Shape := ⟨1, ![512]⟩
abbrev S512x1 : Shape := ⟨2, ![512, 1]⟩
abbrev S512x224 : Shape := ⟨2, ![512, 224]⟩
abbrev S2000x512 : Shape := ⟨2, ![2000, 512]⟩
abbrev S2000x1 : Shape := ⟨2, ![2000, 1]⟩

abbrev nBuf : Space → Nat
  | .hbm => 41
  | .vmem => 24
  | .smem => 0
  | _ => 0

abbrev bufTy : (tb : Table) → Fin (tcTables nBuf tb) → BufTy
  | .hbm, ⟨0, _⟩ => ⟨S50000x480, .f32⟩
  | .hbm, ⟨1, _⟩ => ⟨S50000, .i32⟩
  | .hbm, ⟨2, _⟩ => ⟨S1x224x1, .f32⟩
  | .hbm, ⟨3, _⟩ => ⟨S1x224, .f32⟩
  | .hbm, ⟨4, _⟩ => ⟨S1x128, .f32⟩
  | .hbm, ⟨5, _⟩ => ⟨S480x224, .f32⟩
  | .hbm, ⟨6, _⟩ => ⟨S224x480, .f32⟩
  | .hbm, ⟨7, _⟩ => ⟨S480, .i32⟩
  | .hbm, ⟨8, _⟩ => ⟨S480, .i1⟩
  | .hbm, ⟨9, _⟩ => ⟨S224, .f32⟩
  | .hbm, ⟨10, _⟩ => ⟨S1x224, .f32⟩
  | .hbm, ⟨11, _⟩ => ⟨S25x1x2000, .i32⟩
  | .hbm, ⟨12, _⟩ => ⟨S1x224, .f32⟩
  | .hbm, ⟨13, _⟩ => ⟨S1x1x1x224, .f32⟩
  | .hbm, ⟨14, _⟩ => ⟨S8x1x1x224, .f32⟩
  | .hbm, ⟨15, _⟩ => ⟨S8x224, .f32⟩
  | .hbm, ⟨16, _⟩ => ⟨S1x224, .f32⟩
  | .hbm, ⟨17, _⟩ => ⟨S_, .i32⟩
  | .hbm, ⟨18, _⟩ => ⟨S480, .i32⟩
  | .hbm, ⟨19, _⟩ => ⟨S480, .i32⟩
  | .hbm, ⟨20, _⟩ => ⟨S480, .i32⟩
  | .hbm, ⟨21, _⟩ => ⟨S480x1, .i32⟩
  | .hbm, ⟨22, _⟩ => ⟨S1x480, .f32⟩
  | .hbm, ⟨23, _⟩ => ⟨S1x1x1x480, .f32⟩
  | .hbm, ⟨24, _⟩ => ⟨S8x1x1x480, .f32⟩
  | .hbm, ⟨25, _⟩ => ⟨S8x480, .f32⟩
  | .hbm, ⟨26, _⟩ => ⟨S1x1x1x224, .f32⟩
  | .hbm, ⟨27, _⟩ => ⟨S8x1x1x224, .f32⟩
  | .hbm, ⟨28, _⟩ => ⟨S8x224, .f32⟩
  | .hbm, ⟨29, _⟩ => ⟨S1x1x1x224, .f32⟩
  | .hbm, ⟨30, _⟩ => ⟨S8x1x1x224, .f32⟩
  | .hbm, ⟨31, _⟩ => ⟨S8x224, .f32⟩
  | .hbm, ⟨32, _⟩ => ⟨S_, .f32⟩
  | .hbm, ⟨33, _⟩ => ⟨S1x352, .f32⟩
  | .hbm, ⟨34, _⟩ => ⟨S1x480, .f32⟩
  | .hbm, ⟨35, _⟩ => ⟨S1x1x1x480, .f32⟩
  | .hbm, ⟨36, _⟩ => ⟨S8x1x1x480, .f32⟩
  | .hbm, ⟨37, _⟩ => ⟨S8x480, .f32⟩
  | .hbm, ⟨38, _⟩ => ⟨S512x480, .f32⟩
  | .hbm, ⟨39, _⟩ => ⟨S512x480, .f32⟩
  | .hbm, ⟨40, _⟩ => ⟨S50000x480, .f32⟩
  | .local _ .vmem, ⟨0, _⟩ => ⟨S1x1x2000, .i32⟩
  | .local _ .vmem, ⟨1, _⟩ => ⟨S1x1x2000, .i32⟩
  | .local _ .vmem, ⟨2, _⟩ => ⟨S2000x480, .f32⟩
  | .local _ .vmem, ⟨3, _⟩ => ⟨S2000x480, .f32⟩
  | .local _ .vmem, ⟨4, _⟩ => ⟨S480x224, .f32⟩
  | .local _ .vmem, ⟨5, _⟩ => ⟨S224x480, .f32⟩
  | .local _ .vmem, ⟨6, _⟩ => ⟨S8x224, .f32⟩
  | .local _ .vmem, ⟨7, _⟩ => ⟨S8x480, .f32⟩
  | .local _ .vmem, ⟨8, _⟩ => ⟨S8x224, .f32⟩
  | .local _ .vmem, ⟨9, _⟩ => ⟨S8x224, .f32⟩
  | .local _ .vmem, ⟨10, _⟩ => ⟨S512x480, .f32⟩
  | .local _ .vmem, ⟨11, _⟩ => ⟨S512x480, .f32⟩
  | .local _ .vmem, ⟨12, _⟩ => ⟨S512x480, .f32⟩
  | .local _ .vmem, ⟨13, _⟩ => ⟨S512x480, .f32⟩
  | .local _ .vmem, ⟨14, _⟩ => ⟨S512x128, .f32⟩
  | .local _ .vmem, ⟨15, _⟩ => ⟨S1x1x2000, .i32⟩
  | .local _ .vmem, ⟨16, _⟩ => ⟨S1x1x2000, .i32⟩
  | .local _ .vmem, ⟨17, _⟩ => ⟨S2000x480, .f32⟩
  | .local _ .vmem, ⟨18, _⟩ => ⟨S2000x480, .f32⟩
  | .local _ .vmem, ⟨19, _⟩ => ⟨S512x480, .f32⟩
  | .local _ .vmem, ⟨20, _⟩ => ⟨S512x480, .f32⟩
  | .local _ .vmem, ⟨21, _⟩ => ⟨S8x480, .f32⟩
  | .local _ .vmem, ⟨22, _⟩ => ⟨S2000x480, .f32⟩
  | .local _ .vmem, ⟨23, _⟩ => ⟨S2000x480, .f32⟩
  | _, _ => ⟨S50000x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_c_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S480x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x480 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x480 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x480 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S50000x480 : Shape := ⟨2, ![50000, 480]⟩
abbrev S50000 : Shape := ⟨1, ![50000]⟩
abbrev S1x224x1 : Shape := ⟨3, ![1, 224, 1]⟩
abbrev S1x224 : Shape := ⟨2, ![1, 224]⟩
abbrev S1x128 : Shape := ⟨2, ![1, 128]⟩
abbrev S_ : Shape := ⟨0, ![]⟩
abbrev S512x480 : Shape := ⟨2, ![512, 480]⟩
abbrev S50000x1 : Shape := ⟨2, ![50000, 1]⟩
abbrev S512 : Shape := ⟨1, ![512]⟩
abbrev S512x1 : Shape := ⟨2, ![512, 1]⟩
abbrev S50000x128 : Shape := ⟨2, ![50000, 128]⟩
abbrev S50000x128x1 : Shape := ⟨3, ![50000, 128, 1]⟩
abbrev S512x128 : Shape := ⟨2, ![512, 128]⟩
abbrev S512x128x1 : Shape := ⟨3, ![512, 128, 1]⟩
abbrev S1x128x1 : Shape := ⟨3, ![1, 128, 1]⟩
abbrev S50000x192 : Shape := ⟨2, ![50000, 192]⟩
abbrev S50000x64x3 : Shape := ⟨3, ![50000, 64, 3]⟩
abbrev S512x192 : Shape := ⟨2, ![512, 192]⟩
abbrev S512x64x3 : Shape := ⟨3, ![512, 64, 3]⟩
abbrev S1x64x1 : Shape := ⟨3, ![1, 64, 1]⟩
abbrev S50000x64 : Shape := ⟨2, ![50000, 64]⟩
abbrev S512x64 : Shape := ⟨2, ![512, 64]⟩
abbrev S1x64 : Shape := ⟨2, ![1, 64]⟩
abbrev S50000x64x1 : Shape := ⟨3, ![50000, 64, 1]⟩
abbrev S50000x160 : Shape := ⟨2, ![50000, 160]⟩
abbrev S50000x32x5 : Shape := ⟨3, ![50000, 32, 5]⟩
abbrev S512x160 : Shape := ⟨2, ![512, 160]⟩
abbrev S512x32x5 : Shape := ⟨3, ![512, 32, 5]⟩
abbrev S1x32x1 : Shape := ⟨3, ![1, 32, 1]⟩
abbrev S50000x32 : Shape := ⟨2, ![50000, 32]⟩
abbrev S512x32 : Shape := ⟨2, ![512, 32]⟩
abbrev S1x32 : Shape := ⟨2, ![1, 32]⟩
abbrev S50000x32x1 : Shape := ⟨3, ![50000, 32, 1]⟩

abbrev nBuf : Space → Nat
  | .hbm => 207
  | .vmem => 0
  | .smem => 0
  | _ => 0

abbrev hbmTy0_0 (i : Nat) : BufTy := match i % 128 with
  | 0 => ⟨S50000x480, .f32⟩
  | 1 => ⟨S50000, .i32⟩
  | 2 => ⟨S1x224x1, .f32⟩
  | 3 => ⟨S1x224, .f32⟩
  | 4 => ⟨S1x128, .f32⟩
  | 5 => ⟨S_, .f32⟩
  | 6 => ⟨S512x480, .f32⟩
  | 7 => ⟨S50000x1, .i32⟩
  | 8 => ⟨S512x480, .f32⟩
  | 9 => ⟨S_, .f32⟩
  | 10 => ⟨S50000, .f32⟩
  | 11 => ⟨S_, .f32⟩
  | 12 => ⟨S512, .f32⟩
  | 13 => ⟨S50000x1, .i32⟩
  | 14 => ⟨S512, .f32⟩
  | 15 => ⟨S_, .f32⟩
  | 16 => ⟨S512, .f32⟩
  | 17 => ⟨S512, .f32⟩
  | 18 => ⟨S512x1, .f32⟩
  | 19 => ⟨S512x480, .f32⟩
  | 20 => ⟨S512x480, .f32⟩
  | 21 => ⟨S50000x128, .f32⟩
  | 22 => ⟨S50000x128x1, .f32⟩
  | 23 => ⟨S512x128, .f32⟩
  | 24 => ⟨S512x128x1, .f32⟩
  | 25 => ⟨S1x128x1, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128x1, .f32⟩
  | 35 => ⟨S50000x128x1, .f32⟩
  | 36 => ⟨S50000x128x1, .f32⟩
  | 37 => ⟨S50000x128x1, .f32⟩
  | 38 => ⟨S50000x128x1, .f32⟩
  | 39 => ⟨S_, .f32⟩
  | 40 => ⟨S50000x128, .f32⟩
  | 41 => ⟨S_, .f32⟩
  | 42 => ⟨S50000x128, .f32⟩
  | 43 => ⟨S50000x128, .f32⟩
  | 44 => ⟨S_, .f32⟩
  | 45 => ⟨S512x128, .f32⟩
  | 46 => ⟨S50000x1, .i32⟩
  | 47 => ⟨S512x128, .f32⟩
  | 48 => ⟨S_, .f32⟩
  | 49 => ⟨S50000, .f32⟩
  | 50 => ⟨S_, .f32⟩
  | 51 => ⟨S512, .f32⟩
  | 52 => ⟨S50000x1, .i32⟩
  | 53 => ⟨S512, .f32⟩
  | 54 => ⟨S_, .f32⟩
  | 55 => ⟨S512, .f32⟩
  | 56 => ⟨S512, .f32⟩
  | 57 => ⟨S512x1, .f32⟩
  | 58 => ⟨S512x128, .f32⟩
  | 59 => ⟨S512x128, .f32⟩
  | 60 => ⟨S_, .f32⟩
  | 61 => ⟨S512x128, .f32⟩
  | 62 => ⟨S512x128, .f32⟩
  | 63 => ⟨S_, .f32⟩
  | 64 => ⟨S512x128, .f32⟩
  | 65 => ⟨S512x128, .f32⟩
  | 66 => ⟨S1x128, .f32⟩
  | 67 => ⟨S512x128, .f32⟩
  | 68 => ⟨S512x128, .f32⟩
  | 69 => ⟨S_, .i32⟩
  | 70 => ⟨S50000, .i32⟩
  | 71 => ⟨S50000, .i1⟩
  | 72 => ⟨S_, .i32⟩
  | 73 => ⟨S50000, .i32⟩
  | 74 => ⟨S50000, .i32⟩
  | 75 => ⟨S50000, .i32⟩
  | 76 => ⟨S50000x1, .i32⟩
  | 77 => ⟨S50000x128, .f32⟩
  | 78 => ⟨S50000x128x1, .f32⟩
  | 79 => ⟨S50000x128x1, .f32⟩
  | 80 => ⟨S1x128x1, .f32⟩
  | 81 => ⟨S50000x128x1, .f32⟩
  | 82 => ⟨S50000x128x1, .f32⟩
  | 83 => ⟨S50000x128, .f32⟩
  | 84 => ⟨S50000x192, .f32⟩
  | 85 => ⟨S50000x64x3, .f32⟩
  | 86 => ⟨S512x192, .f32⟩
  | 87 => ⟨S512x64x3, .f32⟩
  | 88 => ⟨S1x64x1, .f32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000x64x3, .f32⟩
  | 98 => ⟨S50000x64x3, .f32⟩
  | 99 => ⟨S50000x64x3, .f32⟩
  | 100 => ⟨S50000x64x3, .f32⟩
  | 101 => ⟨S50000x64x3, .f32⟩
  | 102 => ⟨S_, .f32⟩
  | 103 => ⟨S50000x64, .f32⟩
  | 104 => ⟨S_, .f32⟩
  | 105 => ⟨S50000x64, .f32⟩
  | 106 => ⟨S50000x64, .f32⟩
  | 107 => ⟨S_, .f32⟩
  | 108 => ⟨S512x64, .f32⟩
  | 109 => ⟨S50000x1, .i32⟩
  | 110 => ⟨S512x64, .f32⟩
  | 111 => ⟨S_, .f32⟩
  | 112 => ⟨S50000, .f32⟩
  | 113 => ⟨S_, .f32⟩
  | 114 => ⟨S512, .f32⟩
  | 115 => ⟨S50000x1, .i32⟩
  | 116 => ⟨S512, .f32⟩
  | 117 => ⟨S_, .f32⟩
  | 118 => ⟨S512, .f32⟩
  | 119 => ⟨S512, .f32⟩
  | 120 => ⟨S512x1, .f32⟩
  | 121 => ⟨S512x64, .f32⟩
  | 122 => ⟨S512x64, .f32⟩
  | 123 => ⟨S_, .f32⟩
  | 124 => ⟨S512x64, .f32⟩
  | 125 => ⟨S512x64, .f32⟩
  | 126 => ⟨S_, .f32⟩
  | 127 => ⟨S512x64, .f32⟩
  | _ => ⟨S50000x480, .f32⟩

abbrev hbmTy0_1 (i : Nat) : BufTy := match i % 128 with
  | 0 => ⟨S512x64, .f32⟩
  | 1 => ⟨S1x64, .f32⟩
  | 2 => ⟨S512x64, .f32⟩
  | 3 => ⟨S512x64, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x64, .f32⟩
  | 13 => ⟨S50000x64x1, .f32⟩
  | 14 => ⟨S50000x64x3, .f32⟩
  | 15 => ⟨S50000x64x3, .f32⟩
  | 16 => ⟨S50000x192, .f32⟩
  | 17 => ⟨S50000x160, .f32⟩
  | 18 => ⟨S50000x32x5, .f32⟩
  | 19 => ⟨S512x160, .f32⟩
  | 20 => ⟨S512x32x5, .f32⟩
  | 21 => ⟨S1x32x1, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S50000x32x5, .f32⟩
  | 31 => ⟨S50000x32x5, .f32⟩
  | 32 => ⟨S50000x32x5, .f32⟩
  | 33 => ⟨S50000x32x5, .f32⟩
  | 34 => ⟨S50000x32x5, .f32⟩
  | 35 => ⟨S_, .f32⟩
  | 36 => ⟨S50000x32, .f32⟩
  | 37 => ⟨S_, .f32⟩
  | 38 => ⟨S50000x32, .f32⟩
  | 39 => ⟨S50000x32, .f32⟩
  | 40 => ⟨S_, .f32⟩
  | 41 => ⟨S512x32, .f32⟩
  | 42 => ⟨S50000x1, .i32⟩
  | 43 => ⟨S512x32, .f32⟩
  | 44 => ⟨S_, .f32⟩
  | 45 => ⟨S50000, .f32⟩
  | 46 => ⟨S_, .f32⟩
  | 47 => ⟨S512, .f32⟩
  | 48 => ⟨S50000x1, .i32⟩
  | 49 => ⟨S512, .f32⟩
  | 50 => ⟨S_, .f32⟩
  | 51 => ⟨S512, .f32⟩
  | 52 => ⟨S512, .f32⟩
  | 53 => ⟨S512x1, .f32⟩
  | 54 => ⟨S512x32, .f32⟩
  | 55 => ⟨S512x32, .f32⟩
  | 56 => ⟨S_, .f32⟩
  | 57 => ⟨S512x32, .f32⟩
  | 58 => ⟨S512x32, .f32⟩
  | 59 => ⟨S_, .f32⟩
  | 60 => ⟨S512x32, .f32⟩
  | 61 => ⟨S512x32, .f32⟩
  | 62 => ⟨S1x32, .f32⟩
  | 63 => ⟨S512x32, .f32⟩
  | 64 => ⟨S512x32, .f32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x32, .f32⟩
  | 74 => ⟨S50000x32x1, .f32⟩
  | 75 => ⟨S50000x32x5, .f32⟩
  | 76 => ⟨S50000x32x5, .f32⟩
  | 77 => ⟨S50000x160, .f32⟩
  | 78 => ⟨S50000x480, .f32⟩
  | _ => ⟨S50000x480, .f32⟩

abbrev hbmTy (i : Nat) : BufTy := match i / 128 with
  | 0 => hbmTy0_0 i
  | 1 => hbmTy0_1 i
  | _ => ⟨S50000x480, .f32⟩

abbrev bufTy : (tb : Table) → Fin (tcTables nBuf tb) → BufTy
  | .hbm, ⟨i, _⟩ => hbmTy i
  | _, _ => ⟨S50000x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_c_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_c_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_22 : Ref sig .tc := ⟨.hbm, 123, rfl⟩
abbrev main_v94 : Ref sig .tc := ⟨.hbm, 124, rfl⟩
abbrev main_v95 : Ref sig .tc := ⟨.hbm, 125, rfl⟩
abbrev main_cst_23 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_24 : Ref sig .tc := ⟨.hbm, 132, rfl⟩
abbrev main_v101 : Ref sig .tc := ⟨.hbm, 133, rfl⟩
abbrev main_v102 : Ref sig .tc := ⟨.hbm, 134, rfl⟩
abbrev main_c_25 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_26 : Ref sig .tc := ⟨.hbm, 150, rfl⟩
abbrev main_v117 : Ref sig .tc := ⟨.hbm, 151, rfl⟩
abbrev main_v118 : Ref sig .tc := ⟨.hbm, 152, rfl⟩
abbrev main_c_27 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_28 : Ref sig .tc := ⟨.hbm, 163, rfl⟩
abbrev main_v128 : Ref sig .tc := ⟨.hbm, 164, rfl⟩
abbrev main_cst_29 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_31 : Ref sig .tc := ⟨.hbm, 172, rfl⟩
abbrev main_v134 : Ref sig .tc := ⟨.hbm, 173, rfl⟩
abbrev main_cst_32 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_33 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_34 : Ref sig .tc := ⟨.hbm, 184, rfl⟩
abbrev main_v143 : Ref sig .tc := ⟨.hbm, 185, rfl⟩
abbrev main_v144 : Ref sig .tc := ⟨.hbm, 186, rfl⟩
abbrev main_cst_35 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_36 : Ref sig .tc := ⟨.hbm, 193, rfl⟩
abbrev main_v150 : Ref sig .tc := ⟨.hbm, 194, rfl⟩
abbrev main_v151 : Ref sig .tc := ⟨.hbm, 195, rfl⟩
abbrev main_c_37 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩

abbrev nD : Nat := 1
abbrev τ : Topo := Topo.v7x

variable {F : FTy → Type} [FloatOps F]
-- ==== Proof.KernelIdeal.Stats.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region: what one grid point does to its buffers -/

/-- What the three running tables hold: sums, sums of squares, counts. -/
abbrev Tables (F : FTy → Type) : Type := Vec F S512x480 .f32 × Vec F S512x480 .f32 × Vec F S512x128 .f32

/-- The tables as the first grid point clears them. -/
def tables0 : Tables F := (k0_pay6 (F := F), k0_pay7 (F := F), k0_pay8 (F := F))

/-- One block of rows `x` with graph numbers `b` added into the tables. -/
def tablesStep (b : Vec F S1x1x2000 .i32) (x : Vec F S2000x480 .f32) (a : Tables F) : Tables F :=
  (k0_pay10 x b a.1, k0_pay11 x b a.2.1, k0_pay1 (k0_pay12 b a.2.2))

/-- The count of each graph: the first column of the count table. -/
abbrev cntCol (a : Tables F) : Vec F S512x1 .f32 :=
  View.ld a.2.2 (Rect.unit (s := S512x128) ![0, 0] S512x1.size inb_S512x128_S512x1_0_0)

/-- The first of eight equal rows of a 224-wide parameter block. -/
abbrev row224 (x : Vec F S8x224 .f32) : Vec F S1x224 .f32 :=
  View.ld x (Rect.unit (s := S8x224) ![0, 0] S1x224.size inb_S8x224_S1x224_0_0)

/-- The first of eight equal rows of a 480-wide parameter block. -/
abbrev row480 (x : Vec F S8x480 .f32) : Vec F S1x480 .f32 :=
  View.ld x (Rect.unit (s := S8x480) ![0, 0] S1x480.size inb_S8x480_S1x480_0_0)

/-- The scale table the last grid point stores, from the finished tables. -/
def normOf (x2 : Vec F S480x224 .f32) (x3 : Vec F S224x480 .f32) (x4 x6 x7 : Vec F S8x224 .f32) (a : Tables F) : Vec F S512x480 .f32 :=
  k0_pay5 (cntCol a) a.1 x2 a.2.1 x2 (row224 x4) (row224 x6) (row224 x7) x3

/-- The shifted-mean table the last grid point stores, from the finished tables. -/
def meanmsOf (x5 : Vec F S8x480 .f32) (a : Tables F) : Vec F S512x480 .f32 :=
  k0_pay2 (k0_pay4 (cntCol a) a.1) (row480 x5)

/-- The scale table from equal operands. -/
theorem normOf_congr {x2 : Vec F S480x224 .f32} {x3 : Vec F S224x480 .f32} {x4 x6 x7 : Vec F S8x224 .f32} {a : Tables F}
    {v40 : Vec F S512x1 .f32} {v43 v49 : Vec F S512x480 .f32} {v47 v50 : Vec F S480x224 .f32} {v52 v63 v71 : Vec F S1x224 .f32}
    {v74 : Vec F S224x480 .f32} (h1 : v40 = cntCol a) (h2 : v43 = a.1) (h3 : v47 = x2) (h4 : v49 = a.2.1) (h5 : v50 = x2)
    (h6 : v52 = row224 x4) (h7 : v63 = row224 x6) (h8 : v71 = row224 x7) (h9 : v74 = x3) :
    k0_pay5 v40 v43 v47 v49 v50 v52 v63 v71 v74 = normOf x2 x3 x4 x6 x7 a := by
  rw [h1, h2, h3, h4, h5, h6, h7, h8, h9]; rfl

/-- The body's first condition: the point is the first one. -/
abbrev cond0_0 (i : grid0.Coords) : Prop := (Scalar.cmpi .ne (Scalar.extui (Scalar.cmpi .eq (BitVec.ofNat 32 (i 0).val) 0#32)) 0#32) = 1#1

/-- It holds at point zero only. -/
theorem hcond0_0 : ∀ t : Fin cfg0.N, cond0_0 (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have e1 : t.val / 1 % 25 = t.val := by omega
    simp only [cond0_0, e0, e1]
    word_cmp
   : ∀ t : Fin grid0.N, cond0_0 (grid0.coords t) ↔ t.val = 0)

/-- The body's second condition: the point is the last one. -/
abbrev cond0_1 (i : grid0.Coords) : Prop := k0_cond2 i = 1#1

/-- It holds at point twenty-four only. -/
theorem hcond0_1 : ∀ t : Fin cfg0.N, cond0_1 (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    have e1 : t.val / 1 % 25 = t.val := by omega
    simp only [cond0_1, k0_cond2, e0, e1]
    word_cmp
   : ∀ t : Fin grid0.N, cond0_1 (grid0.coords t) ↔ t.val = 24)

set_option maxHeartbeats 4000000 in
/-- The body at the first grid point: the tables are cleared, then the block is added. -/
theorem stats_run_A (c : Dev nD) (i : grid0.Coords) (arg1 : Memref sig .tc .vmem S1x1x2000 .i32) (harg1 : arg1.IsWhole) (arg2 : Memref sig .tc .vmem S2000x480 .f32) (harg2 : arg2.IsWhole) (arg3 : Memref sig .tc .vmem S480x224 .f32) (harg3 : arg3.IsWhole) (arg4 : Memref sig .tc .vmem S224x480 .f32) (harg4 : arg4.IsWhole) (arg5 : Memref sig .tc .vmem S8x224 .f32) (harg5 : arg5.IsWhole) (arg6 : Memref sig .tc .vmem S8x480 .f32) (harg6 : arg6.IsWhole) (arg7 : Memref sig .tc .vmem S8x224 .f32) (harg7 : arg7.IsWhole) (arg8 : Memref sig .tc .vmem S8x224 .f32) (harg8 : arg8.IsWhole) (arg9 : Memref sig .tc .vmem S512x480 .f32) (harg9 : arg9.IsWhole) (arg10 : Memref sig .tc .vmem S512x480 .f32) (harg10 : arg10.IsWhole) (arg11 : Memref sig .tc .vmem S512x480 .f32) (harg11 : arg11.IsWhole) (arg12 : Memref sig .tc .vmem S512x480 .f32) (harg12 : arg12.IsWhole) (arg13 : Memref sig .tc .vmem S512x128 .f32) (harg13 : arg13.IsWhole) (hc0 : cond0_0 i) (hc1 : ¬cond0_1 i)
    (x0 : Vec F S1x1x2000 .i32) (x1 : Vec F S2000x480 .f32) (x2 : Vec F S480x224 .f32) (x3 : Vec F S224x480 .f32) (x4 : Vec F S8x224 .f32) (x5 : Vec F S8x480 .f32) (x6 : Vec F S8x224 .f32) (x7 : Vec F S8x224 .f32) (y9 y10 : Vec F S512x480 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare y10 ∗ owns (c : Thread nD τ) arg11 fullShare (tablesStep x0 x1 tables0).1 ∗ owns (c : Thread nD τ) arg12 fullShare (tablesStep x0 x1 tables0).2.1 ∗ owns (c : Thread nD τ) arg13 fullShare (tablesStep x0 x1 tables0).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    exact ((View.read_writes_full _ _ _ _ _).trans (congr (congrArg₂ k0_pay10 ((View.readAt_full _ _ _).trans (harg2.read_unread _)) ((View.readAt_full _ _ _).trans (harg1.read_unread _))) (View.readCov_full _ _ _ _ _)))
  isplitl [H11]
  · iexists _; isplitr; swap; · iexact H11
    ipureintro
    exact ((View.read_writes_full _ _ _ _ _).trans (congr (congrArg₂ k0_pay11 ((View.readAt_full _ _ _).trans (harg2.read_unread _)) ((View.readAt_full _ _ _).trans (harg1.read_unread _))) (View.readCov_full _ _ _ _ _)))
  iexists _; isplitr; swap; · iexact H12
  ipureintro
  exact ((View.read_writes_full _ _ _ _ _).trans (congrArg k0_pay1 (congrArg₂ k0_pay12 ((View.readAt_full _ _ _).trans (harg1.read_unread _)) (View.readCov_full _ _ _ _ _))))

set_option maxHeartbeats 4000000 in
/-- The body at a middle grid point: the block is added. -/
theorem stats_run_B (c : Dev nD) (i : grid0.Coords) (arg1 : Memref sig .tc .vmem S1x1x2000 .i32) (harg1 : arg1.IsWhole) (arg2 : Memref sig .tc .vmem S2000x480 .f32) (harg2 : arg2.IsWhole) (arg3 : Memref sig .tc .vmem S480x224 .f32) (harg3 : arg3.IsWhole) (arg4 : Memref sig .tc .vmem S224x480 .f32) (harg4 : arg4.IsWhole) (arg5 : Memref sig .tc .vmem S8x224 .f32) (harg5 : arg5.IsWhole) (arg6 : Memref sig .tc .vmem S8x480 .f32) (harg6 : arg6.IsWhole) (arg7 : Memref sig .tc .vmem S8x224 .f32) (harg7 : arg7.IsWhole) (arg8 : Memref sig .tc .vmem S8x224 .f32) (harg8 : arg8.IsWhole) (arg9 : Memref sig .tc .vmem S512x480 .f32) (harg9 : arg9.IsWhole) (arg10 : Memref sig .tc .vmem S512x480 .f32) (harg10 : arg10.IsWhole) (arg11 : Memref sig .tc .vmem S512x480 .f32) (harg11 : arg11.IsWhole) (arg12 : Memref sig .tc .vmem S512x480 .f32) (harg12 : arg12.IsWhole) (arg13 : Memref sig .tc .vmem S512x128 .f32) (harg13 : arg13.IsWhole) (hc0 : ¬cond0_0 i) (hc1 : ¬cond0_1 i)
    (x0 : Vec F S1x1x2000 .i32) (x1 : Vec F S2000x480 .f32) (x2 : Vec F S480x224 .f32) (x3 : Vec F S224x480 .f32) (x4 : Vec F S8x224 .f32) (x5 : Vec F S8x480 .f32) (x6 : Vec F S8x224 .f32) (x7 : Vec F S8x224 .f32) (a : Tables F) (y9 y10 : Vec F S512x480 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare y10 ∗ owns (c : Thread nD τ) arg11 fullShare a.1 ∗ owns (c : Thread nD τ) arg12 fullShare a.2.1 ∗ owns (c : Thread nD τ) arg13 fullShare a.2.2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare y10 ∗ owns (c : Thread nD τ) arg11 fullShare (tablesStep x0 x1 a).1 ∗ owns (c : Thread nD τ) arg12 fullShare (tablesStep x0 x1 a).2.1 ∗ owns (c : Thread nD τ) arg13 fullShare (tablesStep x0 x1 a).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    exact ((View.read_writes_full _ _ _ _ _).trans (congr (congrArg₂ k0_pay10 ((View.readAt_full _ _ _).trans (harg2.read_unread _)) ((View.readAt_full _ _ _).trans (harg1.read_unread _))) ((View.readAt_full _ _ _).trans (harg11.read_unread _))))
  isplitl [H11]
  · iexists _; isplitr; swap; · iexact H11
    ipureintro
    exact ((View.read_writes_full _ _ _ _ _).trans (congr (congrArg₂ k0_pay11 ((View.readAt_full _ _ _).trans (harg2.read_unread _)) ((View.readAt_full _ _ _).trans (harg1.read_unread _))) ((View.readAt_full _ _ _).trans (harg12.read_unread _))))
  iexists _; isplitr; swap; · iexact H12
  ipureintro
  exact ((View.read_writes_full _ _ _ _ _).trans (congrArg k0_pay1 (congrArg₂ k0_pay12 ((View.readAt_full _ _ _).trans (harg1.read_unread _)) ((View.readAt_full _ _ _).trans (harg13.read_unread _)))))

set_option maxHeartbeats 4000000 in
/-- The body at the last grid point: the block is added and the two result tables are stored. -/
theorem stats_run_C (c : Dev nD) (i : grid0.Coords) (arg1 : Memref sig .tc .vmem S1x1x2000 .i32) (harg1 : arg1.IsWhole) (arg2 : Memref sig .tc .vmem S2000x480 .f32) (harg2 : arg2.IsWhole) (arg3 : Memref sig .tc .vmem S480x224 .f32) (harg3 : arg3.IsWhole) (arg4 : Memref sig .tc .vmem S224x480 .f32) (harg4 : arg4.IsWhole) (arg5 : Memref sig .tc .vmem S8x224 .f32) (harg5 : arg5.IsWhole) (arg6 : Memref sig .tc .vmem S8x480 .f32) (harg6 : arg6.IsWhole) (arg7 : Memref sig .tc .vmem S8x224 .f32) (harg7 : arg7.IsWhole) (arg8 : Memref sig .tc .vmem S8x224 .f32) (harg8 : arg8.IsWhole) (arg9 : Memref sig .tc .vmem S512x480 .f32) (harg9 : arg9.IsWhole) (arg10 : Memref sig .tc .vmem S512x480 .f32) (harg10 : arg10.IsWhole) (arg11 : Memref sig .tc .vmem S512x480 .f32) (harg11 : arg11.IsWhole) (arg12 : Memref sig .tc .vmem S512x480 .f32) (harg12 : arg12.IsWhole) (arg13 : Memref sig .tc .vmem S512x128 .f32) (harg13 : arg13.IsWhole) (hc0 : ¬cond0_0 i) (hc1 : cond0_1 i)
    (x0 : Vec F S1x1x2000 .i32) (x1 : Vec F S2000x480 .f32) (x2 : Vec F S480x224 .f32) (x3 : Vec F S224x480 .f32) (x4 : Vec F S8x224 .f32) (x5 : Vec F S8x480 .f32) (x6 : Vec F S8x224 .f32) (x7 : Vec F S8x224 .f32) (a : Tables F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare a.1 ∗ owns (c : Thread nD τ) arg12 fullShare a.2.1 ∗ owns (c : Thread nD τ) arg13 fullShare a.2.2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (meanmsOf x5 (tablesStep x0 x1 a)) ∗ owns (c : Thread nD τ) arg10 fullShare (normOf x2 x3 x4 x6 x7 (tablesStep x0 x1 a)) ∗ owns (c : Thread nD τ) arg11 fullShare (tablesStep x0 x1 a).1 ∗ owns (c : Thread nD τ) arg12 fullShare (tablesStep x0 x1 a).2.1 ∗ owns (c : Thread nD τ) arg13 fullShare (tablesStep x0 x1 a).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg11.eq_unread hf10
  obtain rfl := harg12.eq_unread hf11
  obtain rfl := harg13.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact ((View.read_writes_full _ _ _ _ _).trans (congrArg₂ k0_pay2 (congrArg₂ k0_pay4 (congrArg (fun X => View.ld X (Rect.unit (s := S512x128) ![0, 0] S512x1.size inb_S512x128_S512x1_0_0)) ((View.read_writes_full _ _ _ _ _).trans (congrArg k0_pay1 (congrArg₂ k0_pay12 ((View.readAt_full _ _ _).trans (harg1.read_unread _)) ((View.readAt_full _ _ _).trans (harg13.read_unread _)))))) ((View.readCov_full _ _ _ _ _).trans (congr (congrArg₂ k0_pay10 ((View.readAt_full _ _ _).trans (harg2.read_unread _)) ((View.readAt_full _ _ _).trans (harg1.read_unread _))) ((View.readAt_full _ _ _).trans (harg11.read_unread _))))) (funext fun x => congrFun (harg6.read_unread x5) _)))
  isplitl [H9]
  · iexists _; isplitr; swap; · iexact H9
    ipureintro
    exact ((View.read_writes_full _ _ _ _ _).trans (normOf_congr (congrArg (fun X => View.ld X (Rect.unit (s := S512x128) ![0, 0] S512x1.size inb_S512x128_S512x1_0_0)) ((View.read_writes_full _ _ _ _ _).trans (congrArg k0_pay1 (congrArg₂ k0_pay12 ((View.readAt_full _ _ _).trans (harg1.read_unread _)) ((View.readAt_full _ _ _).trans (harg13.read_unread _)))))) ((View.readCov_full _ _ _ _ _).trans (congr (congrArg₂ k0_pay10 ((View.readAt_full _ _ _).trans (harg2.read_unread _)) ((View.readAt_full _ _ _).trans (harg1.read_unread _))) ((View.readAt_full _ _ _).trans (harg11.read_unread _)))) ((View.readAt_full _ _ _).trans (harg3.read_unread _)) ((View.readCov_full _ _ _ _ _).trans (congr (congrArg₂ k0_pay11 ((View.readAt_full _ _ _).trans (harg2.read_unread _)) ((View.readAt_full _ _ _).trans (harg1.read_unread _))) ((View.readAt_full _ _ _).trans (harg12.read_unread _)))) ((View.readAt_full _ _ _).trans (harg3.read_unread _)) (funext fun x => congrFun (harg5.read_unread x4) _) (funext fun x => congrFun (harg7.read_unread x6) _) (funext fun x => congrFun (harg8.read_unread x7) _) ((View.readAt_full _ _ _).trans (harg4.read_unread _))))
  isplitl [H10]
  · iexists _; isplitr; swap; · iexact H10
    ipureintro
    exact ((View.read_writes_full _ _ _ _ _).trans (congr (congrArg₂ k0_pay10 ((View.readAt_full _ _ _).trans (harg2.read_unread _)) ((View.readAt_full _ _ _).trans (harg1.read_unread _))) ((View.readAt_full _ _ _).trans (harg11.read_unread _))))
  isplitl [H11]
  · iexists _; isplitr; swap; · iexact H11
    ipureintro
    exact ((View.read_writes_full _ _ _ _ _).trans (congr (congrArg₂ k0_pay11 ((View.readAt_full _ _ _).trans (harg2.read_unread _)) ((View.readAt_full _ _ _).trans (harg1.read_unread _))) ((View.readAt_full _ _ _).trans (harg12.read_unread _))))
  iexists _; isplitr; swap; · iexact H12
  ipureintro
  exact ((View.read_writes_full _ _ _ _ _).trans (congrArg k0_pay1 (congrArg₂ k0_pay12 ((View.readAt_full _ _ _).trans (harg1.read_unread _)) ((View.readAt_full _ _ _).trans (harg13.read_unread _)))))

end Cert.KernelIdeal.Gen

end
-- ==== Proof.KernelIdeal.StatsData.lean ====
module

public import proofs.«01_k».proof.Proof.KernelIdeal.Stats

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region as a pipeline: its blocks, its running tables, its obligation -/

/-- Before the last point the kernel stores nothing into output 8. -/
theorem idleAt0_8 : ∀ t : Fin cfg0.N, ¬cond0_1 (grid0.coords t) → cfg0.idle 8 (grid0.coords t) = true := by decide +kernel
/-- Before the last point output 8 is not written back. -/
theorem noFlush0_8 : ∀ t : Fin cfg0.N, ¬cond0_1 (grid0.coords t) → (cfg0.win 8).flush t = false := by decide +kernel
/-- At the last point the kernel stores output 8. -/
theorem liveAt0_8 : ∀ t : Fin cfg0.N, cond0_1 (grid0.coords t) → cfg0.idle 8 (grid0.coords t) = false := by decide +kernel

/-- Before the last point the kernel stores nothing into output 9. -/
theorem idleAt0_9 : ∀ t : Fin cfg0.N, ¬cond0_1 (grid0.coords t) → cfg0.idle 9 (grid0.coords t) = true := by decide +kernel
/-- Before the last point output 9 is not written back. -/
theorem noFlush0_9 : ∀ t : Fin cfg0.N, ¬cond0_1 (grid0.coords t) → (cfg0.win 9).flush t = false := by decide +kernel
/-- At the last point the kernel stores output 9. -/
theorem liveAt0_9 : ∀ t : Fin cfg0.N, cond0_1 (grid0.coords t) → cfg0.idle 9 (grid0.coords t) = false := by decide +kernel

/-- The three scratch tables as whole buffers. -/
abbrev scM0_0 : Memref sig .tc .vmem S512x480 .f32 := Memref.whole cc0_scratch0
abbrev scM0_1 : Memref sig .tc .vmem S512x480 .f32 := Memref.whole cc0_scratch1
abbrev scM0_2 : Memref sig .tc .vmem S512x128 .f32 := Memref.whole cc0_scratch2

/-- The second region's staging buffers, which this region leaves alone, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region: the three tables at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others c) ∗ (∃ r, prngReg c r)) := by
  unfold Pipeline.ΦA others; rw [scopedRest0_eq]; simp only [scM0_0, scM0_1, scM0_2, owns_whole]; try rfl

section Region

variable (V : (c : Dev nD) → (b : Ref sig .tc) → Buf (Elt F) ((c : Thread nD τ).loc b))

/-- Region 0: the block window `w` stages at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0, input window 0: its staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 1: its staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 2: its staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 3: its staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 4: its staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 5: its staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 6: its staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Region 0, input window 7: its staging buffer holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The three tables after each point -/

/-- The tables after the first `n` points. -/
def accAt (c : Dev nD) : ℕ → Tables F
  | 0 => tables0
  | n + 1 => if h : n < cfg0.N then tablesStep (iblk0 V c 0 ⟨n, h⟩) (iblk0 V c 1 ⟨n, h⟩) (accAt c n) else accAt c n

/-- One more point adds its block. -/
theorem accAt_succ (c : Dev nD) (t : Fin cfg0.N) :
    accAt V c (t.val + 1) = tablesStep (iblk0 V c 0 t) (iblk0 V c 1 t) (accAt V c t.val) := by
  rw [accAt, dif_pos t.isLt]

/-- What the pipeline keeps between points: before the first, the class's invariant; after, the tables. -/
def PhiS (c : Dev nD) : ℕ → sProp 𝕄
  | 0 => Pipeline.ΦA spec0 c
  | n + 1 => iprop(iprop(owns (c : Thread nD τ) scM0_0 fullShare (accAt V c (n + 1)).1 ∗ owns (c : Thread nD τ) scM0_1 fullShare (accAt V c (n + 1)).2.1
      ∗ owns (c : Thread nD τ) scM0_2 fullShare (accAt V c (n + 1)).2.2 ∗ others c) ∗ (∃ r, prngReg c r))

/-- Before a point that is not the first. -/
theorem PhiS_pos (c : Dev nD) (n : ℕ) (hz : n ≠ 0) :
    PhiS V c n = iprop(iprop(owns (c : Thread nD τ) scM0_0 fullShare (accAt V c n).1 ∗ owns (c : Thread nD τ) scM0_1 fullShare (accAt V c n).2.1
      ∗ owns (c : Thread nD τ) scM0_2 fullShare (accAt V c n).2.2 ∗ others c) ∗ (∃ r, prngReg c r)) := by
  cases n with
  | zero => exact absurd rfl hz
  | succ n => rfl

/-! ## The pipeline's proof data -/

/-- Region 0's proof data: inputs stay at their blocks, outputs are what the finished tables give. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => meanmsOf (iblk0 V c 5 t) (accAt V c (t.val + 1))
    | ⟨9, _⟩ => normOf (iblk0 V c 2 t) (iblk0 V c 3 t) (iblk0 V c 4 t) (iblk0 V c 6 t) (iblk0 V c 7 t) (accAt V c (t.val + 1))
  Φ t := PhiS V c t.val
  q w := Pipeline.shareOf spec0 w
  owed _ := 0

/-- Region 0's arrays are what the region finds. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
/-- Output 8 after a point: the mean table from the tables so far. -/
theorem after0_8 (c : Dev nD) (t : Fin cfg0.N) : (dat0 V c).after 8 t = meanmsOf (iblk0 V c 5 t) (accAt V c (t.val + 1)) := by dsimp only [dat0]
/-- Output 9 after a point: the scale table from the tables so far. -/
theorem after0_9 (c : Dev nD) (t : Fin cfg0.N) : (dat0 V c).after 9 t
    = normOf (iblk0 V c 2 t) (iblk0 V c 3 t) (iblk0 V c 4 t) (iblk0 V c 6 t) (iblk0 V c 7 t) (accAt V c (t.val + 1)) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

theorem leaves0_0 (c : Dev nD) (t : Fin cfg0.N) : (dat0 V c).leavesExact 0 t = owns (c : Thread nD τ) (st0_0 t) fullShare (iblk0 V c 0 t) := by
  unfold Dat.leavesExact; rw [show cfg0.idle 0 (grid0.coords t) = false from rfl, after0_0]
theorem leaves0_1 (c : Dev nD) (t : Fin cfg0.N) : (dat0 V c).leavesExact 1 t = owns (c : Thread nD τ) (st0_1 t) fullShare (iblk0 V c 1 t) := by
  unfold Dat.leavesExact; rw [show cfg0.idle 1 (grid0.coords t) = false from rfl, after0_1]
theorem leaves0_2 (c : Dev nD) (t : Fin cfg0.N) : (dat0 V c).leavesExact 2 t = owns (c : Thread nD τ) (st0_2 t) fullShare (iblk0 V c 2 t) := by
  unfold Dat.leavesExact; rw [show cfg0.idle 2 (grid0.coords t) = false from rfl, after0_2]
theorem leaves0_3 (c : Dev nD) (t : Fin cfg0.N) : (dat0 V c).leavesExact 3 t = owns (c : Thread nD τ) (st0_3 t) fullShare (iblk0 V c 3 t) := by
  unfold Dat.leavesExact; rw [show cfg0.idle 3 (grid0.coords t) = false from rfl, after0_3]
theorem leaves0_4 (c : Dev nD) (t : Fin cfg0.N) : (dat0 V c).leavesExact 4 t = owns (c : Thread nD τ) (st0_4 t) fullShare (iblk0 V c 4 t) := by
  unfold Dat.leavesExact; rw [show cfg0.idle 4 (grid0.coords t) = false from rfl, after0_4]
theorem leaves0_5 (c : Dev nD) (t : Fin cfg0.N) : (dat0 V c).leavesExact 5 t = owns (c : Thread nD τ) (st0_5 t) fullShare (iblk0 V c 5 t) := by
  unfold Dat.leavesExact; rw [show cfg0.idle 5 (grid0.coords t) = false from rfl, after0_5]
theorem leaves0_6 (c : Dev nD) (t : Fin cfg0.N) : (dat0 V c).leavesExact 6 t = owns (c : Thread nD τ) (st0_6 t) fullShare (iblk0 V c 6 t) := by
  unfold Dat.leavesExact; rw [show cfg0.idle 6 (grid0.coords t) = false from rfl, after0_6]
theorem leaves0_7 (c : Dev nD) (t : Fin cfg0.N) : (dat0 V c).leavesExact 7 t = owns (c : Thread nD τ) (st0_7 t) fullShare (iblk0 V c 7 t) := by
  unfold Dat.leavesExact; rw [show cfg0.idle 7 (grid0.coords t) = false from rfl, after0_7]

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body hands back at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 2000000 in
/-- The body at the first point: it clears the tables, then adds its block. -/
theorem sound_body0_A (c : Dev nD) (t : Fin cfg0.N) (hz : t.val = 0) :
    bodyPre0 V c t ⊢ wp frame (wpE (defs₀ (F := F)) Variants.none c none) Set.univ (bodyAt0 t) (fun _ => bodyPost0 V c t) := by
  have hc0 := (hcond0_0 t).mpr hz
  have hc1 : ¬cond0_1 (grid0.coords t) := fun h => by have := (hcond0_1 t).mp h; omega
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS V c (t.val + 1) from rfl, PhiS_pos V c (t.val + 1) (Nat.succ_ne_zero _),
    show (dat0 V c).Φ t.castSucc = PhiS V c t.val from rfl]
  rw [leaves0_0, leaves0_1, leaves0_2, leaves0_3, leaves0_4, leaves0_5, leaves0_6, leaves0_7]
  rw [Dat.leavesExact_idle (dat0 V c) 8 t (idleAt0_8 t hc1) (noFlush0_8 t hc1)]
  rw [Dat.leavesExact_idle (dat0 V c) 9 t (idleAt0_9 t hc1) (noFlush0_9 t hc1)]
  rw [show PhiS V c t.val = Pipeline.ΦA spec0 c from by rw [hz]; rfl, PhiA0_eq]
  rw [show accAt V c (t.val + 1) = tablesStep (iblk0 V c 0 t) (iblk0 V c 1 t) tables0 from by rw [accAt_succ, hz]; rfl]
  iintro ⟨⟨⟨HS0, HS1, HS2, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stats_run_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 HX Hg]
  · isplitl [HS0 HS1 HS2 HX]
    · isplitl [HS0]; · iexact HS0
      isplitl [HS1]; · iexact HS1
      isplitl [HS2]; · iexact HS2
      iexact HX
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at a middle point: it adds its block. -/
theorem sound_body0_B (c : Dev nD) (t : Fin cfg0.N) (hz : t.val ≠ 0) (h1 : t.val ≠ 24) :
    bodyPre0 V c t ⊢ wp frame (wpE (defs₀ (F := F)) Variants.none c none) Set.univ (bodyAt0 t) (fun _ => bodyPost0 V c t) := by
  have hc0 : ¬cond0_0 (grid0.coords t) := fun h => hz ((hcond0_0 t).mp h)
  have hc1 : ¬cond0_1 (grid0.coords t) := fun h => h1 ((hcond0_1 t).mp h)
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS V c (t.val + 1) from rfl, PhiS_pos V c (t.val + 1) (Nat.succ_ne_zero _),
    show (dat0 V c).Φ t.castSucc = PhiS V c t.val from rfl]
  rw [leaves0_0, leaves0_1, leaves0_2, leaves0_3, leaves0_4, leaves0_5, leaves0_6, leaves0_7]
  rw [Dat.leavesExact_idle (dat0 V c) 8 t (idleAt0_8 t hc1) (noFlush0_8 t hc1)]
  rw [Dat.leavesExact_idle (dat0 V c) 9 t (idleAt0_9 t hc1) (noFlush0_9 t hc1)]
  rw [PhiS_pos V c t.val hz, accAt_succ]
  iintro ⟨⟨⟨HS0, HS1, HS2, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stats_run_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (accAt V c t.val) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 HX Hg]
  · isplitl [HS0 HS1 HS2 HX]
    · isplitl [HS0]; · iexact HS0
      isplitl [HS1]; · iexact HS1
      isplitl [HS2]; · iexact HS2
      iexact HX
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at the last point: it adds its block and stores both outputs. -/
theorem sound_body0_C (c : Dev nD) (t : Fin cfg0.N) (h1 : t.val = 24) :
    bodyPre0 V c t ⊢ wp frame (wpE (defs₀ (F := F)) Variants.none c none) Set.univ (bodyAt0 t) (fun _ => bodyPost0 V c t) := by
  have hz : t.val ≠ 0 := by omega
  have hc0 : ¬cond0_0 (grid0.coords t) := fun h => hz ((hcond0_0 t).mp h)
  have hc1 := (hcond0_1 t).mpr h1
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS V c (t.val + 1) from rfl, PhiS_pos V c (t.val + 1) (Nat.succ_ne_zero _),
    show (dat0 V c).Φ t.castSucc = PhiS V c t.val from rfl]
  rw [leaves0_0, leaves0_1, leaves0_2, leaves0_3, leaves0_4, leaves0_5, leaves0_6, leaves0_7]
  rw [show (dat0 V c).leavesExact 8 t = owns (c : Thread nD τ) (st0_8 t) fullShare ((dat0 V c).after 8 t) from by
    unfold Dat.leavesExact; rw [liveAt0_8 t hc1], after0_8]
  rw [show (dat0 V c).leavesExact 9 t = owns (c : Thread nD τ) (st0_9 t) fullShare ((dat0 V c).after 9 t) from by
    unfold Dat.leavesExact; rw [liveAt0_9 t hc1], after0_9]
  rw [PhiS_pos V c t.val hz, accAt_succ]
  iintro ⟨⟨⟨HS0, HS1, HS2, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stats_run_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (accAt V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 HX Hg]
  · isplitl [HS0 HS1 HS2 HX]
    · isplitl [HS0]; · iexact HS0
      isplitl [HS1]; · iexact HS1
      isplitl [HS2]; · iexact HS2
      iexact HX
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound_body0_A V c t hz
  · by_cases h1 : t.val = 24
    · exact sound_body0_C V c t h1
    · exact sound_body0_B V c t hz h1

/-- The body table's row at point `t`'s slots is the statistics body. -/
theorem defs₀_row0 (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the tables' contents are forgotten: the invariant gives back what the launch handed in. -/
theorem hout0 (c : Dev nD) : (dat0 V c).Φ (Fin.last cfg0.N) ⊢ Pipeline.ΦA spec0 c := by
  rw [show (dat0 V c).Φ (Fin.last cfg0.N) = PhiS V c 25 from rfl, PhiS_pos V c 25 (by decide), PhiA0_eq]
  iintro ⟨⟨HS0, HS1, HS2, HX⟩, Hg⟩
  isplitl [HS0 HS1 HS2 HX]
  · isplitl [HS0]
    · iexists _; iexact HS0
    isplitl [HS1]
    · iexists _; iexact HS1
    isplitl [HS2]
    · iexists _; iexact HS2
    iexact HX
  iexact Hg

end Region

end Cert.KernelIdeal.Gen

end
-- ==== Proof.KernelIdeal.Apply.lean ====
module

public import proofs.«01_k».proof.Proof.KernelIdeal.StatsData

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: each block of rows centred, scaled and shifted by its graphs' table rows -/

/-- What the body stores for one block of rows. -/
def applyOf (x0 : Vec F S1x1x2000 .i32) (x1 : Vec F S2000x480 .f32) (x2 : Vec F S512x480 .f32) (x3 : Vec F S512x480 .f32) (x4 : Vec F S8x480 .f32) : Vec F S2000x480 .f32 :=
  k1_pay1 x1 x0 x2 x3 (row480 x4)

/-- The stored block from equal operands. -/
theorem applyOf_congr {x0 : Vec F S1x1x2000 .i32} {x1 : Vec F S2000x480 .f32} {x2 x3 : Vec F S512x480 .f32} {x4 : Vec F S8x480 .f32}
    {v0 : Vec F S2000x480 .f32} {v1 : Vec F S1x1x2000 .i32} {v10 v14 : Vec F S512x480 .f32} {v20 : Vec F S1x480 .f32}
    (h0 : v0 = x1) (h1 : v1 = x0) (h2 : v10 = x2) (h3 : v14 = x3) (h4 : v20 = row480 x4) :
    k1_pay1 v0 v1 v10 v14 v20 = applyOf x0 x1 x2 x3 x4 := by
  rw [h0, h1, h2, h3, h4]; rfl

set_option maxHeartbeats 1000000 in
/-- The body stores that block and leaves its inputs alone. -/
theorem apply_run (c : Dev nD) (i : grid1.Coords) (arg1 : Memref sig .tc .vmem S1x1x2000 .i32) (harg1 : arg1.IsWhole) (arg2 : Memref sig .tc .vmem S2000x480 .f32) (harg2 : arg2.IsWhole) (arg3 : Memref sig .tc .vmem S512x480 .f32) (harg3 : arg3.IsWhole) (arg4 : Memref sig .tc .vmem S512x480 .f32) (harg4 : arg4.IsWhole) (arg5 : Memref sig .tc .vmem S8x480 .f32) (harg5 : arg5.IsWhole) (arg6 : Memref sig .tc .vmem S2000x480 .f32) (harg6 : arg6.IsWhole)
    (x0 : Vec F S1x1x2000 .i32) (x1 : Vec F S2000x480 .f32) (x2 : Vec F S512x480 .f32) (x3 : Vec F S512x480 .f32) (x4 : Vec F S8x480 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (applyOf x0 x1 x2 x3 x4)) -∗ K ⟨⟩))
      ⊢ wp frame (wpE (defs₀ (F := F)) Variants.none c none) E (cc1__apply_kernel i arg1 harg1 arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0
  obtain rfl := harg2.eq_unread hf1
  obtain rfl := harg3.eq_unread hf2
  obtain rfl := harg4.eq_unread hf3
  obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact H5
  ipureintro
  exact (View.read_writes_full _ _ _ _ _).trans (applyOf_congr ((View.readAt_full _ _ _).trans (harg2.read_unread _)) ((View.readAt_full _ _ _).trans (harg1.read_unread _)) ((View.readAt_full _ _ _).trans (harg3.read_unread _)) ((View.readAt_full _ _ _).trans (harg4.read_unread _))
    (funext fun x => congrFun (harg5.read_unread x4) _))

section Region

variable (V : (c : Dev nD) → (b : Ref sig .tc) → Buf (Elt F) ((c : Thread nD τ).loc b))

/-- Region 1: the block window `w` stages at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1, input window 0: its staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Region 1, input window 1: its staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Region 1, input window 2: its staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Region 1, input window 3: its staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Region 1, input window 4: its staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Region 1's proof data: inputs stay at their blocks, the output is the stored block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => applyOf (iblk1 V c 0 t) (iblk1 V c 1 t) (iblk1 V c 2 t) (iblk1 V c 3 t) (iblk1 V c 4 t)
  Φ _ := Pipeline.ΦA spec1 c
  q w := Pipeline.shareOf spec1 w
  owed _ := 0

/-- Region 1's arrays are what the region finds. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- The output block after a point. -/
theorem after1_5 (c : Dev nD) (t : Fin cfg1.N) : (dat1 V c).after 5 t = applyOf (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (apply_run c (grid1.coords t) _ _ _ _ _ _ _ _ _ _ _ _ (iblk1 V c 0 t) (iblk1 V c 1 t) (iblk1 V c 2 t) (iblk1 V c 3 t) (iblk1 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the second region's body. -/
theorem defs₀_row1 (t : Fin cfg1.N) :
    defs₀ (F := F) .tc cfg1.body (cfg1.bodyArgs t (cfg1.slots t)) = bodyAt1 t := by
  unfold defs₀; rw [Defs.onTc_tc]

/-- The body meets the pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Gen

end
-- ==== Proof.KernelIdeal.Run.lean ====
module

public import proofs.«01_k».proof.Proof.Gen.KernelIdeal.Regions
public import proofs.«01_k».proof.Proof.KernelIdeal.Apply
public import Idealize.ShloMosaic.Lib.Pipeline.RegionsLoop
public import Idealize.ShloMosaic.Lib.Pipeline.FrameSuffix

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: host lines, the statistics region, the second region -/

/-- The program's arguments. -/
abbrev argRefs : List (Ref sig .tc) := [main_arg0, main_arg1, main_arg2, main_arg3, main_arg4]

/-- The host lines write no argument. -/
theorem hostOps0_args : ∀ a ∈ argRefs, a ∉ hostOps0_W := ListAll.forall_mem_of_all_decide (by decide +kernel)

/-- Core `c`'s buffers at launch. -/
abbrev W0 : Dev nD → Valuation τ sig (Elt F) := fun c b => (s₀ m ρ).mem ((c : Dev nD), b)
/-- After the host lines. -/
abbrev W1 : Dev nD → Valuation τ sig (Elt F) := fun c => StableHlo.after hostOps0 (W0 m ρ c)
/-- A buffer the host lines do not write is as launched. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments after the host lines. -/
theorem W1_args (c : Dev nD) : ∀ a ∈ argRefs, W1 m ρ c (Proc.devRef .tc a) = m ((c : Thread nD τ).loc a) :=
  fun a ha => W1_of m ρ c a (hostOps0_args a ha)
/-- The same at references. -/
abbrev B1 : (c : Dev nD) → (b : Ref sig .tc) → Buf (Elt F) ((c : Thread nD τ).loc b) := fun c b => W1 m ρ c b

/-- When region 0 ends: its arrays as the pipeline leaves them, all else as entered. -/
def W2 (c : Dev nD) : Valuation τ sig (Elt F) :=
  Pipeline.withArrays spec0 c (W1 m ρ c) fun w => (dat0 (B1 m ρ) c).arrAt w cfg0.N
/-- Region 0's arrays when it ends. -/
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
/-- Any other buffer when region 0 ends. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of region 0 is kept. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (B1 m ρ) c).arrAt_in w (h w rfl) _).trans (A_eq0 (B1 m ρ) c w))
  · exact W2_of_ne m ρ c r fun w e => hw ⟨w, e⟩
/-- No argument is an output of region 0. -/
theorem argsIn0 : ∀ a ∈ argRefs, ∀ w : Fin cfg0.W, Pipeline.arrRef spec0 w = a → (cfg0.win w).isOut = false :=
  ListAll.forall_mem_of_all_decide (by decide +kernel)
/-- The arguments when region 0 ends. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at references. -/
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)

/-- When region 1 ends: its arrays as the pipeline leaves them, all else as entered. -/
def W3 (c : Dev nD) : Valuation τ sig (Elt F) :=
  Pipeline.withArrays spec1 c (W2 m ρ c) fun w => (dat1 (B2 m ρ) c).arrAt w cfg1.N
/-- Region 1's arrays when it ends. -/
theorem W3_arr (c : Dev nD) (w : Fin cfg1.W) :
    W3 m ρ c (Proc.devRef .tc (Pipeline.arrRef spec1 w)) = (dat1 (B2 m ρ) c).arrAt w cfg1.N := by
  unfold W3; exact Pipeline.withArrays_arr spec1 launch1.win.arr_inj c _ _ w
/-- Any other buffer when region 1 ends. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output of region 1 is kept. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (B2 m ρ) c).arrAt_in w (h w rfl) _).trans (A_eq1 (B2 m ρ) c w))
  · exact W3_of_ne m ρ c r fun w e => hw ⟨w, e⟩
/-- No argument is an output of region 1. -/
theorem argsIn1 : ∀ a ∈ argRefs, ∀ w : Fin cfg1.W, Pipeline.arrRef spec1 w = a → (cfg1.win w).isOut = false :=
  ListAll.forall_mem_of_all_decide (by decide +kernel)
/-- The arguments when region 1 ends. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same at references. -/
abbrev B3 : (c : Dev nD) → (b : Ref sig .tc) → Buf (Elt F) ((c : Thread nD τ).loc b) := fun c b => W3 m ρ c b
theorem hF1 (c : Dev nD) (w : Fin cfg1.W) : (dat1 (B2 m ρ) c).arrAt w cfg1.N = B3 m ρ c (Pipeline.arrRef spec1 w) :=
  (W3_arr m ρ c w).symm
theorem hrest1 (c : Dev nD) : ∀ b, b ∉ Finset.univ.image (Pipeline.arrRef spec1) → B3 m ρ c b = B2 m ρ c b :=
  fun b hb => W3_of_ne m ρ c b fun w e => hb (Finset.mem_image.mpr ⟨w, Finset.mem_univ _, e⟩)

/-! ## The regions as segments -/

/-- Every pipeline's proof data, at its region's entry. -/
def pdats : (p : Fin 2) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B2 m ρ) c
/-- No barrier levels. -/
abbrev lvls : GSem nD τ sig → Finset Unit := fun _ => ∅
abbrev lvlOf : GSem nD τ sig → Unit → ℕ := fun _ _ => 0
/-- What rides along: the generator register, and nothing owed. -/
abbrev Ride (c : Dev nD) : sProp 𝕄 := iprop((∃ r, prngReg c r) ∗ ∃ W, owes (c : Thread nD τ) (0 : CellTallies nD τ sig Unit) W)
/-- The host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvls lvlOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- An unscoped buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Held3 (c : Dev nD) : sProp 𝕄 := iprop(StableHlo.held (c : Thread nD τ) (Pipeline.ucRefs τ sig) (W3 m ρ c) ∗ ∃ r, prngReg c r)

-- the library's entry lemma is stated over the pinned configuration: unification must unfold definitions in types
set_option backward.isDefEq.respectTransparency.types false in
/-- Region 0 as a segment: its arrays come out of the held buffers and go back at their final contents. -/
def reg0 : Pipeline.RegionSeg (pcfgs (F := F)) adm (pdats m ρ) () defs₀ Variants.none lvls lvlOf 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ lvls lvlOf 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs_shared (p := 0) (pcfgs (F := F)) adm (pdats m ρ) launch0.win.to₀ (fun _ _ hne e => absurd (launch0.win.arr_inj e) hne) launch0.arr_whole c
      (fun _ _ => rfl) (B1 m ρ c) (A_eq0 (B1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from Entails.of_eq rfl)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (B1 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch0.win.to₀ (fun _ _ hne e => absurd (launch0.win.arr_inj e) hne) launch0.arr_whole c (pdats m ρ) (fun _ _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry lemma is stated over the pinned configuration: unification must unfold definitions in types
set_option backward.isDefEq.respectTransparency.types false in
/-- Region 1 as a segment: its arrays come out of the held buffers and go back at their final contents. -/
def reg1 : Pipeline.RegionSeg (pcfgs (F := F)) adm (pdats m ρ) () defs₀ Variants.none lvls lvlOf 1 where
  win := launch1.win.to₀
  block_pos := launch1.block_pos
  stage_whole := launch1.stage_whole
  K := PEmpty
  osem k := k.elim
  ho := Pipeline.OwnSemFacts.none _
  hbody c := (body_obligation1 (B2 m ρ) c).loose
  hwaits := Pipeline.hwaits_of_owed_zero _ _ _ _ lvls lvlOf 1 fun _ _ => rfl
  pre c := iprop(StableHlo.held (c : Thread nD τ) (Pipeline.ucRefs τ sig) (W2 m ρ c) ∗ Ride c)
  post c := iprop(Held3 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs_shared (p := 1) (pcfgs (F := F)) adm (pdats m ρ) launch1.win.to₀ (fun _ _ hne e => absurd (launch1.win.arr_inj e) hne) launch1.arr_whole c
      (fun _ _ => rfl) (B2 m ρ c) (A_eq1 (B2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch1.win.to₀ (fun _ _ hne e => absurd (launch1.win.arr_inj e) hne) launch1.arr_whole c (pdats m ρ) (fun _ _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's three segments. -/
abbrev segs3 : List (Pipeline.Seg (pcfgs (F := F)) adm (pdats m ρ) () defs₀ Variants.none lvls lvlOf) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs3 m ρ) := (main_chain c).trans (by chain_rfl)

/-- The core has no unscoped semaphore. -/
theorem no_unscoped : ∀ sm : SemLoc sig, sm.isScoped .tc = true := by decide

-- the library theorem's implicit arguments are found by unfolding definitions in types
set_option backward.isDefEq.respectTransparency.types false in
/-- Every fair run ends, faultless, with each unscoped buffer at its final contents and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ Variants.none lvls lvlOf m ρ main (segs3 m ρ)
    (fun c Q => by rw [main_run m ρ c])
    (by simp only [segs3, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := Held3 m ρ)
    (hch := ⟨fun _ => .rfl, fun _ => .rfl, fun _ => .rfl, fun _ => .rfl⟩)
    (hinit := by
      refine Pipeline.initEach lvls lvlOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide)),
     (h.1 c _ (mem_uc main_arg3 (by decide))).trans (W3_args m ρ c main_arg3 (by decide)),
     (h.1 c _ (mem_uc main_arg4 (by decide))).trans (W3_args m ρ c main_arg4 (by decide))⟩, h.2⟩) (ends m ρ)

/-- The result's final contents, beside the unchanged arguments. -/
theorem result : θ_run defs (onTc (τ := τ) (main (F := F))) ⟨m, fun _ => 0, ρ⟩ (fun r => ∀ c : Dev nD,
      r.2.mem ((c.tc : Thread nD τ).loc main_v27) = (dat1 (B2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h.1 c _ (mem_uc main_v27 (by decide))).trans (W3_arr m ρ c 5),
     (h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide)),
     (h.1 c _ (mem_uc main_arg3 (by decide))).trans (W3_args m ρ c main_arg3 (by decide)),
     (h.1 c _ (mem_uc main_arg4 (by decide))).trans (W3_args m ρ c main_arg4 (by decide))⟩) (ends m ρ)

end Cert.KernelIdeal.Whole

end
-- ==== Proof.Inputs.lean ====
/- What the claim's precondition says of the arguments. -/
module

public import proofs.«01_k».proof.Pre_inputs_ok
public import Idealize.ShloMosaic.Lib.Affine
public import Idealize.ShloMosaic.Lib.IdealHost

@[expose] public section

noncomputable section

namespace Cert.Pre_inputs_ok

open Idealize.ShloMosaic

/-- The shapes the input predicate broadcasts between fit. -/
theorem facts : Facts := ⟨by decide, by decide, by decide⟩

/-- A number whose size is below the greatest is real. -/
theorem real_of_lt (x : EReal) (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  rw [ht] at h
  have hl : max x (-x) < ⊤ := by
    by_contra hn
    have : Ideal.cmp .olt (max x (-x)) ⊤ = 0#1 := by
      show BitVec.ofBool (decide (max x (-x) < ⊤)) = _
      rw [decide_eq_false hn]; rfl
    rw [this] at h
    exact absurd h (by decide)
  refine EReal.coe_toReal (fun e => ?_) (fun e => ?_)
  · rw [e] at hl; simp at hl
  · rw [e] at hl; simp at hl

/-- A word that is not negative and is below 512 as a signed number is below 512 as an unsigned one. -/
theorem small_of (w : BitVec 32) (h0 : IntOp.cmpi .sge w 0#32 = 1#1) (h1 : IntOp.cmpi .slt w 512#32 = 1#1) : w.toNat < 512 := by
  have a0 := IntOp.cmpi_sge.1 h0
  have a1 := IntOp.cmpi_slt.1 h1
  have e0 : (0#32).toInt = 0 := by decide
  have e1 : (512#32).toInt = 512 := by decide
  rw [e0] at a0
  rw [e1] at a1
  rw [BitVec.toInt_eq_toNat_cond] at a0 a1
  have := w.isLt
  split at a0 <;> omega

variable [Facts] (a0 : FVec Ideal S50000x480 .f32) (a1 : IVec S50000 32) (a2 : FVec Ideal S1x224x1 .f32) (a3 : FVec Ideal S1x224 .f32)
  (a4 : FVec Ideal S1x128 .f32)

/-- The rows are real. -/
theorem rows_real (h : (fn a0 a1 a2 a3 a4).1 = fun _ => 1#1) (i : S50000x480.Idx) : (((a0 i : EReal).toReal : ℝ) : EReal) = a0 i :=
  real_of_lt (a0 i) (congrFun h i)
/-- The shifts are real. -/
theorem shifts_real (h : (fn a0 a1 a2 a3 a4).2.2.2 = fun _ => 1#1) (i : S1x224x1.Idx) : (((a2 i : EReal).toReal : ℝ) : EReal) = a2 i :=
  real_of_lt (a2 i) (congrFun h i)
/-- The graph words are below 512. -/
theorem words_small (h0 : (fn a0 a1 a2 a3 a4).2.1 = fun _ => 1#1) (h1 : (fn a0 a1 a2 a3 a4).2.2.1 = fun _ => 1#1) (i : S50000.Idx) :
    (a1 i).toNat < 512 :=
  small_of (a1 i) (congrFun h0 i) (congrFun h1 i)

end Cert.Pre_inputs_ok

end
-- ==== Proof.KernelIdeal.Windows.lean ====
/- What the two regions' blocks hold, as entries of their arrays, and what the output arrays hold when a region ends. -/
module

public import proofs.«01_k».proof.Proof.Gen.KernelIdeal.Regions
public import proofs.«01_k».proof.Proof.KernelIdeal.Apply
public import Idealize.ShloMosaic.Lib.Pipeline.Value
public import Idealize.ShloMosaic.Lib.Pointwise

@[expose] public section

noncomputable section

namespace Cert.KernelIdeal.Value

open Idealize.ShloMosaic Idealize.ShloMosaic.TcCoe Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b)) (c : Dev nD)

/-- The rows' number in the array: row `r` of block `t`. -/
abbrev rowOf (t : Fin 25) (r : Fin 2000) : Fin 50000 := ⟨2000 * t.val + r.val, by omega⟩

/-- The first region's row blocks step down the array. -/
theorem step0 : ∀ t : Fin grid0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 := by decide +kernel
/-- The second region's row blocks step down the array. -/
theorem step1 : ∀ t : Fin grid1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_5.index t (0 : Fin 2) = t.val ∧ win1_5.index t (1 : Fin 2) = 0 := by decide +kernel

/-- Region 0: an entry of a block of graph words. -/
theorem words0 (t : Fin 25) (r : Fin 2000) :
    (iblk0 V c 0 t : Vec F S1x1x2000 .i32) (ix3 0 0 r) = V c main_v1 (ix3 t 0 r : S25x1x2000.Idx) := by
  show V c main_v1 (((cfg0.win 0).blk t).view.emb (ix3 0 0 r : S1x1x2000.Idx)) = _
  obtain ⟨e0, e1, e2, e3, e4⟩ := step0 t
  refine congrArg _ (funext fun a => Fin.ext ?_)
  match a with
  | ⟨0, _⟩ => show win0_0.index t (0 : Fin 3) * 1 + 1 * 0 = t.val; rw [e0]; omega
  | ⟨1, _⟩ => show win0_0.index t (1 : Fin 3) * 1 + 1 * 0 = 0; rw [e1]
  | ⟨2, _⟩ => show win0_0.index t (2 : Fin 3) * 2000 + 1 * r.val = r.val; rw [e2]; omega
/-- Region 0: an entry of a block of rows. -/
theorem rows0 (t : Fin 25) (r : Fin 2000) (k : Fin 480) :
    (iblk0 V c 1 t : Vec F S2000x480 .f32) (ix2 r k) = V c main_arg0 (ix2 (rowOf t r) k : S50000x480.Idx) := by
  show V c main_arg0 (((cfg0.win 1).blk t).view.emb (ix2 r k : S2000x480.Idx)) = _
  obtain ⟨e0, e1, e2, e3, e4⟩ := step0 t
  refine congrArg _ (funext fun a => Fin.ext ?_)
  match a with
  | ⟨0, _⟩ => show win0_1.index t (0 : Fin 2) * 2000 + 1 * r.val = 2000 * t.val + r.val; rw [e3]; omega
  | ⟨1, _⟩ => show win0_1.index t (1 : Fin 2) * 480 + 1 * k.val = k.val; rw [e4]; omega
/-- Region 1: an entry of a block of graph words. -/
theorem words1 (t : Fin 25) (r : Fin 2000) :
    (iblk1 V c 0 t : Vec F S1x1x2000 .i32) (ix3 0 0 r) = V c main_v1 (ix3 t 0 r : S25x1x2000.Idx) := by
  show V c main_v1 (((cfg1.win 0).blk t).view.emb (ix3 0 0 r : S1x1x2000.Idx)) = _
  obtain ⟨e0, e1, e2, e3, e4, -, -⟩ := step1 t
  refine congrArg _ (funext fun a => Fin.ext ?_)
  match a with
  | ⟨0, _⟩ => show win1_0.index t (0 : Fin 3) * 1 + 1 * 0 = t.val; rw [e0]; omega
  | ⟨1, _⟩ => show win1_0.index t (1 : Fin 3) * 1 + 1 * 0 = 0; rw [e1]
  | ⟨2, _⟩ => show win1_0.index t (2 : Fin 3) * 2000 + 1 * r.val = r.val; rw [e2]; omega
/-- Region 1: an entry of a block of rows. -/
theorem rows1 (t : Fin 25) (r : Fin 2000) (k : Fin 480) :
    (iblk1 V c 1 t : Vec F S2000x480 .f32) (ix2 r k) = V c main_arg0 (ix2 (rowOf t r) k : S50000x480.Idx) := by
  show V c main_arg0 (((cfg1.win 1).blk t).view.emb (ix2 r k : S2000x480.Idx)) = _
  obtain ⟨e0, e1, e2, e3, e4, -, -⟩ := step1 t
  refine congrArg _ (funext fun a => Fin.ext ?_)
  match a with
  | ⟨0, _⟩ => show win1_1.index t (0 : Fin 2) * 2000 + 1 * r.val = 2000 * t.val + r.val; rw [e3]; omega
  | ⟨1, _⟩ => show win1_1.index t (1 : Fin 2) * 480 + 1 * k.val = k.val; rw [e4]; omega
/-- Region 0, window 2: its block is its array. -/
theorem whole0_2 (t : Fin cfg0.N) : (iblk0 V c 2 t : Vec F S480x224 .f32) = V c main_cst := by
  funext y
  show V c main_cst (((cfg0.win 2).blk t).view.emb y) = V c main_cst y
  refine congrArg _ (funext fun a => Fin.ext ?_)
  match a with
  | ⟨0, _⟩ => show 0 * 480 + 1 * (y 0).val = (y 0).val; omega
  | ⟨1, _⟩ => show 0 * 224 + 1 * (y 1).val = (y 1).val; omega
/-- Region 0, window 3: its block is its array. -/
theorem whole0_3 (t : Fin cfg0.N) : (iblk0 V c 3 t : Vec F S224x480 .f32) = V c main_cst_0 := by
  funext y
  show V c main_cst_0 (((cfg0.win 3).blk t).view.emb y) = V c main_cst_0 y
  refine congrArg _ (funext fun a => Fin.ext ?_)
  match a with
  | ⟨0, _⟩ => show 0 * 224 + 1 * (y 0).val = (y 0).val; omega
  | ⟨1, _⟩ => show 0 * 480 + 1 * (y 1).val = (y 1).val; omega
/-- Region 0, window 4: its block is its array. -/
theorem whole0_4 (t : Fin cfg0.N) : (iblk0 V c 4 t : Vec F S8x224 .f32) = V c main_v5 := by
  funext y
  show V c main_v5 (((cfg0.win 4).blk t).view.emb y) = V c main_v5 y
  refine congrArg _ (funext fun a => Fin.ext ?_)
  match a with
  | ⟨0, _⟩ => show 0 * 8 + 1 * (y 0).val = (y 0).val; omega
  | ⟨1, _⟩ => show 0 * 224 + 1 * (y 1).val = (y 1).val; omega
/-- Region 0, window 5: its block is its array. -/
theorem whole0_5 (t : Fin cfg0.N) : (iblk0 V c 5 t : Vec F S8x480 .f32) = V c main_v14 := by
  funext y
  show V c main_v14 (((cfg0.win 5).blk t).view.emb y) = V c main_v14 y
  refine congrArg _ (funext fun a => Fin.ext ?_)
  match a with
  | ⟨0, _⟩ => show 0 * 8 + 1 * (y 0).val = (y 0).val; omega
  | ⟨1, _⟩ => show 0 * 480 + 1 * (y 1).val = (y 1).val; omega
/-- Region 0, window 6: its block is its array. -/
theorem whole0_6 (t : Fin cfg0.N) : (iblk0 V c 6 t : Vec F S8x224 .f32) = V c main_v17 := by
  funext y
  show V c main_v17 (((cfg0.win 6).blk t).view.emb y) = V c main_v17 y
  refine congrArg _ (funext fun a => Fin.ext ?_)
  match a with
  | ⟨0, _⟩ => show 0 * 8 + 1 * (y 0).val = (y 0).val; omega
  | ⟨1, _⟩ => show 0 * 224 + 1 * (y 1).val = (y 1).val; omega
/-- Region 0, window 7: its block is its array. -/
theorem whole0_7 (t : Fin cfg0.N) : (iblk0 V c 7 t : Vec F S8x224 .f32) = V c main_v20 := by
  funext y
  show V c main_v20 (((cfg0.win 7).blk t).view.emb y) = V c main_v20 y
  refine congrArg _ (funext fun a => Fin.ext ?_)
  match a with
  | ⟨0, _⟩ => show 0 * 8 + 1 * (y 0).val = (y 0).val; omega
  | ⟨1, _⟩ => show 0 * 224 + 1 * (y 1).val = (y 1).val; omega
/-- Region 1, window 2: its block is its array. -/
theorem whole1_2 (t : Fin cfg1.N) : (iblk1 V c 2 t : Vec F S512x480 .f32) = V c main_v26_0 := by
  funext y
  show V c main_v26_0 (((cfg1.win 2).blk t).view.emb y) = V c main_v26_0 y
  refine congrArg _ (funext fun a => Fin.ext ?_)
  match a with
  | ⟨0, _⟩ => show 0 * 512 + 1 * (y 0).val = (y 0).val; omega
  | ⟨1, _⟩ => show 0 * 480 + 1 * (y 1).val = (y 1).val; omega
/-- Region 1, window 3: its block is its array. -/
theorem whole1_3 (t : Fin cfg1.N) : (iblk1 V c 3 t : Vec F S512x480 .f32) = V c main_v26_1 := by
  funext y
  show V c main_v26_1 (((cfg1.win 3).blk t).view.emb y) = V c main_v26_1 y
  refine congrArg _ (funext fun a => Fin.ext ?_)
  match a with
  | ⟨0, _⟩ => show 0 * 512 + 1 * (y 0).val = (y 0).val; omega
  | ⟨1, _⟩ => show 0 * 480 + 1 * (y 1).val = (y 1).val; omega
/-- Region 1, window 4: its block is its array. -/
theorem whole1_4 (t : Fin cfg1.N) : (iblk1 V c 4 t : Vec F S8x480 .f32) = V c main_v25 := by
  funext y
  show V c main_v25 (((cfg1.win 4).blk t).view.emb y) = V c main_v25 y
  refine congrArg _ (funext fun a => Fin.ext ?_)
  match a with
  | ⟨0, _⟩ => show 0 * 8 + 1 * (y 0).val = (y 0).val; omega
  | ⟨1, _⟩ => show 0 * 480 + 1 * (y 1).val = (y 1).val; omega

/-- Output 8 of region 0 when it ends: what the last point left. -/
theorem final0_8 : (dat0 V c).arrAt 8 cfg0.N = ((dat0 V c).after 8 (24 : Fin 25) : Vec F S512x480 .f32) := by
  refine (dat0 V c).arrAt_eq_of_cover 8 _ (fun t hf => ?_) (fun i => ⟨(24 : Fin 25), (flush0_8 (24 : Fin 25)).mpr rfl, ?_⟩)
  · have h24 : t = (24 : Fin 25) := Fin.ext (by have := (flush0_8 t).mp hf; have h := lt_of_lt_of_eq t.isLt (show cfg0.N = 25 from N_0); show t.val = 24; omega)
    subst h24
    funext y
    show (dat0 V c).after 8 (24 : Fin 25) ((cfg0.win 8).xinj (grid0.coords (24 : Fin 25)) y) = (dat0 V c).after 8 (24 : Fin 25) (((cfg0.win 8).blk (24 : Fin 25)).view.emb y)
    refine congrArg _ (funext fun a => Fin.ext ?_)
    match a with
    | ⟨0, _⟩ => show (y 0).val = 0 * 512 + 1 * (y 0).val; omega
    | ⟨1, _⟩ => show (y 1).val = 0 * 480 + 1 * (y 1).val; omega
  · show i ∈ ((View.whole main_v26_0).slice (win0_8.rect (24 : Fin 25))).set
    rw [View.set_slice_whole, Rect.mem_set_unit]
    intro a
    match a with
    | ⟨0, _⟩ => have h : (i 0).val < 512 := (i 0).isLt; show 0 * 512 ≤ (i 0).val ∧ (i 0).val < 0 * 512 + 512; omega
    | ⟨1, _⟩ => have h : (i 1).val < 480 := (i 1).isLt; show 0 * 480 ≤ (i 1).val ∧ (i 1).val < 0 * 480 + 480; omega

/-- Output 9 of region 0 when it ends: what the last point left. -/
theorem final0_9 : (dat0 V c).arrAt 9 cfg0.N = ((dat0 V c).after 9 (24 : Fin 25) : Vec F S512x480 .f32) := by
  refine (dat0 V c).arrAt_eq_of_cover 9 _ (fun t hf => ?_) (fun i => ⟨(24 : Fin 25), (flush0_9 (24 : Fin 25)).mpr rfl, ?_⟩)
  · have h24 : t = (24 : Fin 25) := Fin.ext (by have := (flush0_9 t).mp hf; have h := lt_of_lt_of_eq t.isLt (show cfg0.N = 25 from N_0); show t.val = 24; omega)
    subst h24
    funext y
    show (dat0 V c).after 9 (24 : Fin 25) ((cfg0.win 9).xinj (grid0.coords (24 : Fin 25)) y) = (dat0 V c).after 9 (24 : Fin 25) (((cfg0.win 9).blk (24 : Fin 25)).view.emb y)
    refine congrArg _ (funext fun a => Fin.ext ?_)
    match a with
    | ⟨0, _⟩ => show (y 0).val = 0 * 512 + 1 * (y 0).val; omega
    | ⟨1, _⟩ => show (y 1).val = 0 * 480 + 1 * (y 1).val; omega
  · show i ∈ ((View.whole main_v26_1).slice (win0_9.rect (24 : Fin 25))).set
    rw [View.set_slice_whole, Rect.mem_set_unit]
    intro a
    match a with
    | ⟨0, _⟩ => have h : (i 0).val < 512 := (i 0).isLt; show 0 * 512 ≤ (i 0).val ∧ (i 0).val < 0 * 512 + 512; omega
    | ⟨1, _⟩ => have h : (i 1).val < 480 := (i 1).isLt; show 0 * 480 ≤ (i 1).val ∧ (i 1).val < 0 * 480 + 480; omega

/-- An entry of the result when region 1 ends: what its row's point left. -/
theorem final1 (t : Fin 25) (r : Fin 2000) (k : Fin 480) :
    (dat1 V c).arrAt 5 cfg1.N (ix2 (rowOf t r) k : S50000x480.Idx) = ((dat1 V c).after 5 t : Vec F S2000x480 .f32) (ix2 r k) := by
  let G : S50000x480.Idx → Elt F .f32 := fun i =>
    ((dat1 V c).after 5 (⟨(i 0).val / 2000, by have h : (i 0).val < 50000 := (i 0).isLt; omega⟩ : Fin 25) : Vec F S2000x480 .f32)
      (ix2 ⟨(i 0).val % 2000, Nat.mod_lt _ (by decide)⟩ ⟨(i 1).val, (i 1).isLt⟩)
  have e : (dat1 V c).arrAt 5 cfg1.N = G := by
    refine (dat1 V c).arrAt_eq_of_cover 5 _ (fun t hf => ?_) (fun i => ?_)
    · funext y
      obtain ⟨-, -, -, -, -, e5, e6⟩ := step1 t
      have hy0 : (y 0).val < 2000 := (y 0).isLt
      have hb0 : (((cfg1.win 5).blk t).view.emb y 0).val = win1_5.index t (0 : Fin 2) * 2000 + 1 * (y 0).val := rfl
      have hb1 : (((cfg1.win 5).blk t).view.emb y 1).val = win1_5.index t (1 : Fin 2) * 480 + 1 * (y 1).val := rfl
      have ht : (⟨(((cfg1.win 5).blk t).view.emb y 0).val / 2000, by
          have h : (((cfg1.win 5).blk t).view.emb y 0).val < 50000 := (((cfg1.win 5).blk t).view.emb y 0).isLt; omega⟩ : Fin 25) = t :=
        Fin.ext (by show (((cfg1.win 5).blk t).view.emb y 0).val / 2000 = t.val; rw [hb0, e5]; omega)
      show (dat1 V c).after 5 t ((cfg1.win 5).xinj (grid1.coords t) y) = G (((cfg1.win 5).blk t).view.emb y)
      dsimp only [G]
      rw [ht]
      refine congrArg _ (funext fun a => Fin.ext ?_)
      match a with
      | ⟨0, _⟩ => show (y 0).val = (((cfg1.win 5).blk t).view.emb y 0).val % 2000; rw [hb0, e5]; omega
      | ⟨1, _⟩ => show (y 1).val = (((cfg1.win 5).blk t).view.emb y 1).val; rw [hb1, e6]; omega
    · have h0 : (i 0).val < 50000 := (i 0).isLt
      have h1 : (i 1).val < 480 := (i 1).isLt
      let t : Fin 25 := ⟨(i 0).val / 2000, by omega⟩
      obtain ⟨-, -, -, -, -, e5, e6⟩ := step1 t
      refine ⟨t, flush1_5 t, ?_⟩
      show i ∈ ((View.whole main_v27).slice (win1_5.rect t)).set
      rw [View.set_slice_whole, Rect.mem_set_unit]
      intro a
      match a with
      | ⟨0, _⟩ =>
        show win1_5.index t (0 : Fin 2) * 2000 ≤ (i 0).val ∧ (i 0).val < win1_5.index t (0 : Fin 2) * 2000 + 2000
        rw [e5]; show (i 0).val / 2000 * 2000 ≤ (i 0).val ∧ _ < (i 0).val / 2000 * 2000 + 2000; omega
      | ⟨1, _⟩ => show win1_5.index t (1 : Fin 2) * 480 ≤ (i 1).val ∧ (i 1).val < win1_5.index t (1 : Fin 2) * 480 + 480; rw [e6]; omega
  rw [e]
  dsimp only [G]
  have ht : (⟨(rowOf t r).val / 2000, by have h : (rowOf t r).val < 50000 := (rowOf t r).isLt; omega⟩ : Fin 25) = t :=
    Fin.ext (by show (2000 * t.val + r.val) / 2000 = t.val; omega)
  have hr : (⟨(rowOf t r).val % 2000, Nat.mod_lt _ (by decide)⟩ : Fin 2000) = r :=
    Fin.ext (by show (2000 * t.val + r.val) % 2000 = r.val; omega)
  show ((dat1 V c).after 5 (⟨(rowOf t r).val / 2000, _⟩ : Fin 25) : Vec F S2000x480 .f32) (ix2 ⟨(rowOf t r).val % 2000, _⟩ k) = _
  rw [ht, hr]

end Cert.KernelIdeal.Value

end
-- ==== Proof.Maths.lean ====
/- The arithmetic of the equivariant graph normalization, apart from any program: sums over the rows of a graph, the channel of a
   column, and the equality of the two ways to take a channel's variance. -/
module

public import Idealize.ShloMosaic.PureOps.Ideal.Laws
public import Idealize.ShloMosaic.Lib.IdealHost

@[expose] public section

noncomputable section

namespace Cert.GraphNorm

open Idealize.ShloMosaic
open scoped BigOperators

/-! ## Extended reals that are reals -/

/-- A sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A conditional real, taken among the extended reals. -/
theorem coe_ite (p : Prop) [Decidable p] (a : ℝ) : (if p then ((a : ℝ) : EReal) else 0) = ((if p then a else 0 : ℝ) : EReal) := by
  split <;> simp

/-- The quotient of two reals, the divisor not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The reciprocal root of a positive real. -/
theorem rsqrt_coe (r : ℝ) (hr : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 hr.le), if_neg hr.ne']

/-- The greater of two reals, taken among the extended reals. -/
theorem max_coe (a b : ℝ) : max (a : EReal) (b : EReal) = ((max a b : ℝ) : EReal) :=
  (EReal.coe_strictMono.monotone.map_max).symm

/-- The small number added to a variance. -/
def eps : ℝ := (2 ^ 23 + 2606508 : ℕ) * (2 : ℝ) ^ (-40 : ℤ)

/-- It is positive. -/
theorem eps_pos : 0 < eps := by unfold eps; positivity

/-- Its word. -/
theorem ofBits_eps : Ideal.ofBits .f32 0x3727C5AC#32 = ((eps : ℝ) : EReal) := by
  simp [Ideal.ofBits, Ideal.ieee, eps, -EReal.coe_mul]

/-- The word of two. -/
theorem ofBits_two : Ideal.ofBits .f32 0x40000000#32 = ((2 : ℝ) : EReal) := by
  simp [Ideal.ofBits, Ideal.ieee, -EReal.coe_mul]; norm_num

/-- The word of three. -/
theorem ofBits_three : Ideal.ofBits .f32 0x40400000#32 = ((3 : ℝ) : EReal) := by
  simp [Ideal.ofBits, Ideal.ieee, -EReal.coe_mul]; norm_num

/-- The word of five. -/
theorem ofBits_five : Ideal.ofBits .f32 0x40A00000#32 = ((5 : ℝ) : EReal) := by
  simp [Ideal.ofBits, Ideal.ieee, -EReal.coe_mul]; norm_num

/-- The word of minus one half. -/
theorem ofBits_neg_half : Ideal.ofBits .f32 0xBF000000#32 = ((-(1 / 2) : ℝ) : EReal) := by
  simp [Ideal.ofBits, Ideal.ieee, -EReal.coe_mul, -EReal.coe_neg]; norm_num

/-! ## Sums over the rows of a graph -/

/-- The sum of `f` over the rows whose graph word is `g`. -/
def seg (b : Fin 50000 → BitVec 32) (f : Fin 50000 → EReal) (g : Fin 512) : EReal :=
  ∑ n, if (b n).toNat = g.val then f n else 0

/-- The same for real numbers. -/
def segR (b : Fin 50000 → BitVec 32) (f : Fin 50000 → ℝ) (g : Fin 512) : ℝ :=
  ∑ n, if (b n).toNat = g.val then f n else 0

/-- A sum of reals over a graph's rows is real. -/
theorem seg_coe (b : Fin 50000 → BitVec 32) (f : Fin 50000 → ℝ) (g : Fin 512) :
    seg b (fun n => (f n : EReal)) g = ((segR b f g : ℝ) : EReal) := by
  unfold seg segR
  rw [← coe_sum]
  exact Finset.sum_congr rfl fun n _ => coe_ite _ _

/-- The number of rows of a graph. -/
def cntR (b : Fin 50000 → BitVec 32) (g : Fin 512) : ℝ := segR b (fun _ => 1) g

/-- A graph with a row has at least one. -/
theorem one_le_cntR (b : Fin 50000 → BitVec 32) (g : Fin 512) (n : Fin 50000) (h : (b n).toNat = g.val) : 1 ≤ cntR b g := by
  unfold cntR segR
  have h1 : (if (b n).toNat = g.val then (1 : ℝ) else 0) ≤ ∑ n, if (b n).toNat = g.val then (1 : ℝ) else 0 :=
    Finset.single_le_sum (f := fun n => if (b n).toNat = g.val then (1 : ℝ) else 0)
      (fun i _ => ite_nonneg zero_le_one le_rfl) (Finset.mem_univ n)
  rwa [if_pos h] at h1

/-! ## Columns and channels -/

/-- The channel of a column: 128 channels of one column, 64 of three, 32 of five. -/
def chan (c : Fin 480) : Fin 224 :=
  if h : c.val < 128 then ⟨c.val, by omega⟩
  else if h' : c.val < 320 then ⟨128 + (c.val - 128) / 3, by omega⟩
  else ⟨192 + (c.val - 320) / 5, by have := c.isLt; omega⟩

/-- How many columns a channel has. -/
def width (k : Fin 224) : ℝ := if k.val < 128 then 1 else if k.val < 192 then 3 else 5

/-- A channel has a column. -/
theorem width_pos (k : Fin 224) : 0 < width k := by unfold width; split <;> [norm_num; split <;> norm_num]

/-- The columns of a channel of the first kind. -/
theorem sum_chan1 (f : Fin 480 → ℝ) (k : Fin 128) :
    (∑ c, if chan c = ⟨k.val, by omega⟩ then f c else 0) = ∑ j : Fin 1, f ⟨k.val + j.val, by omega⟩ := by
  rw [← Finset.sum_filter]
  refine (Finset.sum_nbij (fun j : Fin 1 => (⟨k.val + j.val, by omega⟩ : Fin 480)) ?_ ?_ ?_ ?_).symm
  · intro j _
    simp only [Finset.mem_filter, Finset.mem_univ, true_and]
    unfold chan
    rw [dif_pos (by dsimp only; omega)]; apply Fin.ext; dsimp only; omega
  · intro i _ j _ h; apply Fin.ext; have := congrArg Fin.val h; dsimp only at this; omega
  · intro c hc
    simp only [Finset.coe_filter, Finset.mem_univ, true_and, Set.mem_setOf_eq] at hc
    have hv := congrArg Fin.val hc
    have := c.isLt
    refine ⟨0, by simp, Fin.ext ?_⟩
    unfold chan at hv
    split_ifs at hv <;> dsimp only at hv ⊢ <;> simp <;> omega
  · intro _ _; rfl

/-- The columns of a channel of the second kind. -/
theorem sum_chan3 (f : Fin 480 → ℝ) (k : Fin 64) :
    (∑ c, if chan c = ⟨128 + k.val, by omega⟩ then f c else 0) = ∑ j : Fin 3, f ⟨128 + (k.val * 3 + j.val), by omega⟩ := by
  rw [← Finset.sum_filter]
  refine (Finset.sum_nbij (fun j : Fin 3 => (⟨128 + (k.val * 3 + j.val), by omega⟩ : Fin 480)) ?_ ?_ ?_ ?_).symm
  · intro j _
    simp only [Finset.mem_filter, Finset.mem_univ, true_and]
    unfold chan
    rw [dif_neg (by dsimp only; omega), dif_pos (by dsimp only; omega)]; apply Fin.ext; dsimp only; omega
  · intro i _ j _ h; apply Fin.ext; have := congrArg Fin.val h; dsimp only at this; omega
  · intro c hc
    simp only [Finset.coe_filter, Finset.mem_univ, true_and, Set.mem_setOf_eq] at hc
    have hv := congrArg Fin.val hc
    have := c.isLt
    refine ⟨⟨(c.val - 128) % 3, by omega⟩, by simp, Fin.ext ?_⟩
    unfold chan at hv
    split_ifs at hv <;> dsimp only at hv ⊢ <;> omega
  · intro _ _; rfl

/-- The columns of a channel of the third kind. -/
theorem sum_chan5 (f : Fin 480 → ℝ) (k : Fin 32) :
    (∑ c, if chan c = ⟨192 + k.val, by omega⟩ then f c else 0) = ∑ j : Fin 5, f ⟨320 + (k.val * 5 + j.val), by omega⟩ := by
  rw [← Finset.sum_filter]
  refine (Finset.sum_nbij (fun j : Fin 5 => (⟨320 + (k.val * 5 + j.val), by omega⟩ : Fin 480)) ?_ ?_ ?_ ?_).symm
  · intro j _
    simp only [Finset.mem_filter, Finset.mem_univ, true_and]
    unfold chan
    rw [dif_neg (by dsimp only; omega), dif_neg (by dsimp only; omega)]; apply Fin.ext; dsimp only; omega
  · intro i _ j _ h; apply Fin.ext; have := congrArg Fin.val h; dsimp only at this; omega
  · intro c hc
    simp only [Finset.coe_filter, Finset.mem_univ, true_and, Set.mem_setOf_eq] at hc
    have hv := congrArg Fin.val hc
    have := c.isLt
    refine ⟨⟨(c.val - 320) % 5, by omega⟩, by simp, Fin.ext ?_⟩
    unfold chan at hv
    split_ifs at hv <;> dsimp only at hv ⊢ <;> omega
  · intro _ _; rfl

/-! ## The normalization -/

section
variable (b : Fin 50000 → BitVec 32) (X : Fin 50000 → Fin 480 → ℝ) (M : Fin 224 → ℝ)

/-- A graph's mean of a column. -/
def mean (g : Fin 512) (c : Fin 480) : ℝ := segR b (fun n => X n c) g / max (cntR b g) 1

/-- A row's entry less its graph's shifted mean. -/
def field (g : Fin 512) (n : Fin 50000) (c : Fin 480) : ℝ := X n c - mean b X g c * M (chan c)

/-- A graph's mean, over rows and over the columns of a channel, of the field's square. -/
def var (g : Fin 512) (k : Fin 224) : ℝ :=
  segR b (fun n => (∑ c, if chan c = k then field b X M g n c * field b X M g n c else 0) / width k) g / max (cntR b g) 1

/-- It is not negative. -/
theorem var_nonneg (g : Fin 512) (k : Fin 224) : 0 ≤ var b X M g k := by
  unfold var segR
  refine div_nonneg (Finset.sum_nonneg fun n _ => ?_) (le_trans zero_le_one (le_max_right _ _))
  split
  · exact div_nonneg (Finset.sum_nonneg fun c _ => by split <;> [exact mul_self_nonneg _; exact le_rfl]) (width_pos k).le
  · exact le_rfl

/-- The reciprocal root of the variance. -/
def rstd (g : Fin 512) (k : Fin 224) : ℝ := (Real.sqrt (var b X M g k + eps))⁻¹

/-- A power is linear on a graph's rows: the field's square from the sum, the sum of squares and the count, where the count is the number
    that the mean divides by. -/
theorem seg_field_sq (g : Fin 512) (h : 1 ≤ cntR b g) (c : Fin 480) :
    segR b (fun n => field b X M g n c * field b X M g n c) g
      = segR b (fun n => X n c * X n c) g
        + (M (chan c) * M (chan c) - 2 * M (chan c)) * (mean b X g c * mean b X g c) * max (cntR b g) 1 := by
  have hs : segR b (fun n => X n c) g = mean b X g c * cntR b g := by
    unfold mean; rw [max_eq_left h]; field_simp
  rw [max_eq_left h]
  have hsplit : segR b (fun n => field b X M g n c * field b X M g n c) g
      = segR b (fun n => X n c * X n c) g - 2 * (mean b X g c * M (chan c)) * segR b (fun n => X n c) g
        + (mean b X g c * M (chan c)) * (mean b X g c * M (chan c)) * cntR b g := by
    unfold cntR segR
    rw [Finset.mul_sum, Finset.mul_sum, ← Finset.sum_sub_distrib, ← Finset.sum_add_distrib]
    refine Finset.sum_congr rfl fun n _ => ?_
    unfold field
    split <;> ring
  rw [hsplit, hs]; ring

/-- The variance from the sums of the columns, the sums of their squares and the count. -/
theorem var_eq (g : Fin 512) (h : 1 ≤ cntR b g) (k : Fin 224) :
    ((∑ c, segR b (fun n => X n c * X n c) g * (if chan c = k then 1 else 0))
        + (M k * M k - 2 * M k) * (∑ c, mean b X g c * mean b X g c * (if chan c = k then 1 else 0)) * max (cntR b g) 1)
      / (max (cntR b g) 1 * width k) = var b X M g k := by
  have hk := (width_pos k).ne'
  have hc : max (cntR b g) 1 ≠ 0 := (lt_of_lt_of_le one_pos (le_max_right _ _)).ne'
  have e : segR b (fun n => (∑ c, if chan c = k then field b X M g n c * field b X M g n c else 0) / width k) g
      = (∑ c, if chan c = k then segR b (fun n => field b X M g n c * field b X M g n c) g else 0) / width k := by
    unfold segR
    rw [Finset.sum_div]
    simp only [Finset.sum_div]
    have : ∀ c : Fin 480, (if chan c = k then ∑ n, (if (b n).toNat = g.val then field b X M g n c * field b X M g n c else 0) else 0) / width k
        = ∑ n, if (b n).toNat = g.val then (if chan c = k then field b X M g n c * field b X M g n c else 0) / width k else 0 := by
      intro c
      by_cases hck : chan c = k
      · simp only [if_pos hck]
        rw [Finset.sum_div]
        exact Finset.sum_congr rfl fun n _ => by split <;> simp
      · simp [if_neg hck]
    rw [Finset.sum_congr rfl fun c _ => this c, Finset.sum_comm]
    exact Finset.sum_congr rfl fun n _ => by split <;> simp
  unfold var
  rw [e]
  have e2 : (∑ c, if chan c = k then segR b (fun n => field b X M g n c * field b X M g n c) g else 0)
      = (∑ c, segR b (fun n => X n c * X n c) g * (if chan c = k then 1 else 0))
        + (M k * M k - 2 * M k) * (∑ c, mean b X g c * mean b X g c * (if chan c = k then 1 else 0)) * max (cntR b g) 1 := by
    rw [Finset.mul_sum, Finset.sum_mul, ← Finset.sum_add_distrib]
    refine Finset.sum_congr rfl fun c _ => ?_
    by_cases hck : chan c = k
    · rw [if_pos hck, if_pos hck, seg_field_sq b X M g h c, hck]; ring
    · simp [if_neg hck]
  rw [e2]
  field_simp

/-- An entry of the result: the field times the scaled reciprocal root, plus the bias. -/
def out (W : Fin 224 → EReal) (β : Fin 480 → EReal) (g : Fin 512) (n : Fin 50000) (c : Fin 480) : EReal :=
  ((field b X M g n c : ℝ) : EReal) * (((rstd b X M g (chan c) : ℝ) : EReal) * W (chan c)) + β c

end

end Cert.GraphNorm

end
-- ==== Proof.KernelIdeal.Payloads.lean ====
/- What the two kernels' blocks compute, entry by entry, over the extended reals. -/
module

public import proofs.«01_k».proof.Proof.KernelIdeal.Apply
public import proofs.«01_k».proof.Proof.Maths
public import Idealize.ShloMosaic.Lib.Pointwise

@[expose] public section

noncomputable section

namespace Cert.KernelIdeal.Value

open Idealize.ShloMosaic Cert.KernelIdeal Cert.KernelIdeal.Gen
open scoped BigOperators

/-- An entry of a one-hot matrix: one where the word is the number, zero elsewhere. -/
theorem onehot (g : ℕ) (hg : g < 512) (w : BitVec 32) :
    FloatOps.sitofp (F := Ideal) FTy.f32 (BitVec.setWidth 32 (IntOp.cmpi CmpIPredicate.eq (BitVec.ofNat 32 g) w))
      = if w.toNat = g then (1 : EReal) else 0 := by
  have e : IntOp.cmpi CmpIPredicate.eq (BitVec.ofNat 32 g) w = if w.toNat = g then 1#1 else 0#1 := by
    show BitVec.ofBool (BitVec.ofNat 32 g == w) = _
    by_cases h : w.toNat = g
    · have : BitVec.ofNat 32 g = w := by apply BitVec.eq_of_toNat_eq; rw [BitVec.toNat_ofNat]; omega
      rw [if_pos h, this]; simp
    · have : BitVec.ofNat 32 g ≠ w := fun e => h (by rw [← e, BitVec.toNat_ofNat]; omega)
      rw [if_neg h, beq_eq_false_iff_ne.2 this]; rfl
  rw [e]
  show (((BitVec.setWidth 32 (if w.toNat = g then 1#1 else 0#1)).toInt : ℝ) : EReal) = _
  split <;> simp

/-- An entry of a one-hot product: the term where the word is the number, zero elsewhere. -/
theorem onehot_mul (g : ℕ) (hg : g < 512) (w : BitVec 32) (x : EReal) :
    FloatOps.sitofp (F := Ideal) FTy.f32 (BitVec.setWidth 32 (IntOp.cmpi CmpIPredicate.eq (BitVec.ofNat 32 g) w)) * x
      = if w.toNat = g then x else 0 := by
  rw [onehot g hg w]; split <;> simp

/-- One block of the sums: what it held, plus the sum of the block's rows that belong to the graph. -/
theorem step_sum (x : Vec Ideal S2000x480 .f32) (b : Vec Ideal S1x1x2000 .i32) (a : Vec Ideal S512x480 .f32) (g : Fin 512) (c : Fin 480) :
    k0_pay10 x b a (ix2 g c)
      = a (ix2 g c) + ∑ r : Fin 2000, if (b (ix3 0 0 r)).toNat = g.val then x (ix2 r c) else 0 := by
  pointwise [k0_pay10, k0_pay9]
  exact congrArg _ (Finset.sum_congr rfl fun r _ => onehot_mul g.val g.isLt _ _)

/-- One block of the sums of squares. -/
theorem step_sq (x : Vec Ideal S2000x480 .f32) (b : Vec Ideal S1x1x2000 .i32) (a : Vec Ideal S512x480 .f32) (g : Fin 512) (c : Fin 480) :
    k0_pay11 x b a (ix2 g c)
      = a (ix2 g c) + ∑ r : Fin 2000, if (b (ix3 0 0 r)).toNat = g.val then x (ix2 r c) * x (ix2 r c) else 0 := by
  pointwise [k0_pay11, k0_pay9]
  exact congrArg _ (Finset.sum_congr rfl fun r _ => onehot_mul g.val g.isLt _ _)

/-- One block of the counts, the same in each of the lanes. -/
theorem step_count (b : Vec Ideal S1x1x2000 .i32) (a : Vec Ideal S512x128 .f32) (g : Fin 512) (l : Fin 128) :
    k0_pay1 (k0_pay12 b a) (ix2 g l)
      = a (ix2 g l) + ∑ r : Fin 2000, if (b (ix3 0 0 r)).toNat = g.val then (1 : EReal) else 0 := by
  pointwise [k0_pay1, k0_pay12, k0_pay9]
  exact congrArg _ (Finset.sum_congr rfl fun r _ => onehot g.val g.isLt _)

/-- The tables start at zero. -/
theorem tables0_sum (j : S512x480.Idx) : (tables0 (F := Ideal)).1 j = 0 := by
  show (k0_pay6 : FVec Ideal S512x480 .f32) j = 0
  pointwise [k0_pay6]
/-- The tables start at zero. -/
theorem tables0_sq (j : S512x480.Idx) : (tables0 (F := Ideal)).2.1 j = 0 := by
  show (k0_pay7 : FVec Ideal S512x480 .f32) j = 0
  pointwise [k0_pay7]
/-- The tables start at zero. -/
theorem tables0_count (j : S512x128.Idx) : (tables0 (F := Ideal)).2.2 j = 0 := by
  show (k0_pay8 : FVec Ideal S512x128 .f32) j = 0
  pointwise [k0_pay8]

/-- An entry of the applied block, where the row's graph is `g`: the row's entry less the table's mean, times the table's factor, plus the bias. -/
theorem apply_entry (b : Vec Ideal S1x1x2000 .i32) (x : Vec Ideal S2000x480 .f32) (m n : Vec Ideal S512x480 .f32) (z : Vec Ideal S1x480 .f32)
    (r : Fin 2000) (c : Fin 480) (g : Fin 512) (h : (b (ix3 0 0 r)).toNat = g.val) :
    k1_pay1 x b m n z (ix2 r c) = (x (ix2 r c) - m (ix2 g c)) * n (ix2 g c) + z (ix2 0 c) := by
  have pick : ∀ f : Fin 512 → EReal, (∑ k : Fin 512,
      FloatOps.sitofp (F := Ideal) FTy.f32 (BitVec.setWidth 32 (IntOp.cmpi CmpIPredicate.eq (BitVec.ofNat 32 k.val) (b (ix3 0 0 r)))) * f k) = f g := by
    intro f
    rw [Finset.sum_congr rfl fun k _ => onehot_mul k.val k.isLt (b (ix3 0 0 r)) (f k), h]
    simp only [← Fin.ext_iff]
    rw [Finset.sum_ite_eq Finset.univ g f, if_pos (Finset.mem_univ g)]
  pointwise [k1_pay1]
  rw [pick fun k => m (ix2 k c), pick fun k => n (ix2 k c)]

/-- An entry of the table of shifted means. -/
theorem meanms_entry (cc : Vec Ideal S512x1 .f32) (s : Vec Ideal S512x480 .f32) (ms : Vec Ideal S1x480 .f32) (g : Fin 512) (c : Fin 480) :
    k0_pay2 (k0_pay4 cc s) ms (ix2 g c) = Ideal.div (s (ix2 g c)) (max (cc (ix2 g 0)) 1) * ms (ix2 0 c) := by
  pointwise [k0_pay2, k0_pay4, k0_pay3]

/-- An entry of the table of factors. -/
theorem norm_entry (cc : Vec Ideal S512x1 .f32) (s q : Vec Ideal S512x480 .f32) (et et' : Vec Ideal S480x224 .f32) (ms d w : Vec Ideal S1x224 .f32)
    (e : Vec Ideal S224x480 .f32) (g : Fin 512) (c : Fin 480) :
    k0_pay5 cc s et q et' ms d w e (ix2 g c)
      = ∑ k : Fin 224, Ideal.rsqrt (Ideal.div
          (∑ j : Fin 480, q (ix2 g j) * et' (ix2 j k)
            + ((ms (ix2 0 k) * ms (ix2 0 k) - Ideal.ofBits .f32 0x40000000#32 * ms (ix2 0 k))
                * ∑ j : Fin 480, Ideal.div (s (ix2 g j)) (max (cc (ix2 g 0)) 1) * Ideal.div (s (ix2 g j)) (max (cc (ix2 g 0)) 1) * et (ix2 j k))
              * max (cc (ix2 g 0)) 1)
          (max (cc (ix2 g 0)) 1 * d (ix2 0 k)) + Ideal.ofBits .f32 0x3727C5AC#32) * w (ix2 0 k) * e (ix2 k c) := by
  pointwise [k0_pay5, k0_pay4, k0_pay3]

end Cert.KernelIdeal.Value

end
-- ==== Proof.KernelIdeal.Tables.lean ====
/- The statistics region's two output tables, from what the region finds in its arrays. -/
module

public import proofs.«01_k».proof.Proof.KernelIdeal.Windows
public import proofs.«01_k».proof.Proof.KernelIdeal.Payloads

@[expose] public section

noncomputable section

namespace Cert.KernelIdeal.Value

open Idealize.ShloMosaic Idealize.ShloMosaic.TcCoe Cert.KernelIdeal Cert.KernelIdeal.Gen Cert.GraphNorm
open scoped BigOperators

variable (V : (c : Dev nD) → (b : Ref sig .tc) → Buf (Elt Ideal) ((c : Thread nD τ).loc b)) (c : Dev nD)

/-- A sum over the rows, block by block. -/
theorem sum_rows (f : Fin 50000 → EReal) : ∑ t : Fin 25, ∑ r : Fin 2000, f (rowOf t r) = ∑ n, f n := by
  rw [← Fintype.sum_prod_type' (f := fun t r => f (rowOf t r))]
  refine Fintype.sum_equiv (finProdFinEquiv.trans (finCongr (by norm_num : 25 * 2000 = 50000))) _ _ fun p => congrArg f (Fin.ext ?_)
  show 2000 * p.1.val + p.2.val = p.2.val + 2000 * p.1.val
  omega

/-- A reading of the tables that starts at zero and to which each block adds its rows' terms is, after the last block, the sum over all rows. -/
theorem fold_rows (p : Tables Ideal → EReal) (f : Fin 50000 → EReal) (h0 : p tables0 = 0)
    (hs : ∀ (t : Fin 25) (a : Tables Ideal), p (tablesStep (iblk0 V c 0 t) (iblk0 V c 1 t) a) = p a + ∑ r : Fin 2000, f (rowOf t r)) :
    p (accAt V c 25) = ∑ n, f n := by
  have key : ∀ n : ℕ, n ≤ 25 → p (accAt V c n) = ∑ t ∈ Finset.range n, if h : t < 25 then ∑ r : Fin 2000, f (rowOf ⟨t, h⟩ r) else 0 := by
    intro n
    induction n with
    | zero => intro _; exact h0
    | succ n ih =>
      intro hn
      have e := accAt_succ V c (⟨n, lt_of_lt_of_eq hn N_0.symm⟩ : Fin cfg0.N)
      rw [show accAt V c (n + 1) = _ from e, Finset.sum_range_succ, ← ih (by omega), dif_pos (by omega : n < 25)]
      exact hs ⟨n, by omega⟩ _
  rw [key 25 le_rfl, Finset.sum_range, ← sum_rows f]
  exact Finset.sum_congr rfl fun t _ => dif_pos t.isLt

/-- The first output when the region ends: the shifted means from the finished tables. -/
theorem arr8 : (dat0 V c).arrAt 8 cfg0.N = meanmsOf (F := Ideal) (V c main_v14) (accAt V c 25) :=
  (final0_8 V c).trans ((after0_8 V c (24 : Fin 25)).trans
    (congrArg (fun x => meanmsOf (F := Ideal) x (accAt V c 25)) (whole0_5 V c (24 : Fin 25))))
/-- The second output when the region ends: the factors from the finished tables. -/
theorem arr9 : (dat0 V c).arrAt 9 cfg0.N
    = normOf (F := Ideal) (V c main_cst) (V c main_cst_0) (V c main_v5) (V c main_v17) (V c main_v20) (accAt V c 25) :=
  (final0_9 V c).trans ((after0_9 V c (24 : Fin 25)).trans
    (congrFun (congr (congr (congr (congrArg₂ (normOf (F := Ideal)) (whole0_2 V c (24 : Fin 25)) (whole0_3 V c (24 : Fin 25)))
      (whole0_4 V c (24 : Fin 25))) (whole0_6 V c (24 : Fin 25))) (whole0_7 V c (24 : Fin 25))) (accAt V c 25)))

/-- What the statistics region finds in its arrays: the graph words, the rows, the two tables of channels, the shift of each channel and of
    each column, the width and the weight of each channel. -/
structure Found (b : Fin 50000 → BitVec 32) (X : Fin 50000 → Fin 480 → ℝ) (M : Fin 224 → ℝ) (W : Fin 224 → EReal) : Prop where
  words : ∀ (t : Fin 25) (r : Fin 2000), V c main_v1 (ix3 t 0 r : S25x1x2000.Idx) = b (rowOf t r)
  rows : ∀ (n : Fin 50000) (k : Fin 480), V c main_arg0 (ix2 n k : S50000x480.Idx) = ((X n k : ℝ) : EReal)
  et : ∀ (j : Fin 480) (k : Fin 224), V c main_cst (ix2 j k : S480x224.Idx) = if chan j = k then (1 : EReal) else 0
  e : ∀ (k : Fin 224) (j : Fin 480), V c main_cst_0 (ix2 k j : S224x480.Idx) = if chan j = k then (1 : EReal) else 0
  ms : ∀ k : Fin 224, V c main_v5 (ix2 0 k : S8x224.Idx) = ((M k : ℝ) : EReal)
  msc : ∀ j : Fin 480, V c main_v14 (ix2 0 j : S8x480.Idx) = ((M (chan j) : ℝ) : EReal)
  d : ∀ k : Fin 224, V c main_v17 (ix2 0 k : S8x224.Idx) = ((width k : ℝ) : EReal)
  w : ∀ k : Fin 224, V c main_v20 (ix2 0 k : S8x224.Idx) = W k

section
variable {V c} {b : Fin 50000 → BitVec 32} {X : Fin 50000 → Fin 480 → ℝ} {M : Fin 224 → ℝ} {W : Fin 224 → EReal} (H : Found V c b X M W)

/-- The finished sums. -/
theorem acc_sum (g : Fin 512) (k : Fin 480) (H : Found V c b X M W) :
    (accAt V c 25).1 (ix2 g k) = ((segR b (fun n => X n k) g : ℝ) : EReal) := by
  rw [← seg_coe]
  refine fold_rows V c (fun a => a.1 (ix2 g k)) _ (tables0_sum _) fun t a => ?_
  refine (step_sum _ _ a.1 g k).trans (congrArg _ (Finset.sum_congr rfl fun r _ => ?_))
  rw [words0 V c t r, H.words, rows0 V c t r k, H.rows]

/-- The finished sums of squares. -/
theorem acc_sq (g : Fin 512) (k : Fin 480) (H : Found V c b X M W) :
    (accAt V c 25).2.1 (ix2 g k) = ((segR b (fun n => X n k * X n k) g : ℝ) : EReal) := by
  rw [← seg_coe]
  refine fold_rows V c (fun a => a.2.1 (ix2 g k)) _ (tables0_sq _) fun t a => ?_
  refine (step_sq _ _ a.2.1 g k).trans (congrArg _ (Finset.sum_congr rfl fun r _ => ?_))
  rw [words0 V c t r, H.words, rows0 V c t r k, H.rows]
  rw [← EReal.coe_mul]

/-- The finished counts. -/
theorem acc_count (g : Fin 512) (l : Fin 128) (H : Found V c b X M W) :
    (accAt V c 25).2.2 (ix2 g l) = ((cntR b g : ℝ) : EReal) := by
  unfold cntR
  rw [← seg_coe]
  refine fold_rows V c (fun a => a.2.2 (ix2 g l)) _ (tables0_count _) fun t a => ?_
  refine (step_count _ a.2.2 g l).trans (congrArg _ (Finset.sum_congr rfl fun r _ => ?_))
  rw [words0 V c t r, H.words, EReal.coe_one]

/-- The count column of a count table. -/
theorem cntCol_apply (a : Tables Ideal) (g : Fin 512) : cntCol a (ix2 g 0) = a.2.2 (ix2 g 0) := by
  unfold cntCol; pointwise
/-- The first row of a table by channels. -/
theorem row224_apply (x : Vec Ideal S8x224 .f32) (k : Fin 224) : row224 x (ix2 0 k) = x (ix2 0 k) := by
  unfold row224; pointwise
/-- The first row of a table by columns. -/
theorem row480_apply (x : Vec Ideal S8x480 .f32) (k : Fin 480) : row480 x (ix2 0 k) = x (ix2 0 k) := by
  unfold row480; pointwise

/-- The number that a graph's mean divides by. -/
theorem cnt_max (g : Fin 512) (H : Found V c b X M W) : max (cntCol (accAt V c 25) (ix2 g 0)) 1 = ((max (cntR b g) 1 : ℝ) : EReal) := by
  rw [cntCol_apply, acc_count g 0 H, ← EReal.coe_one, max_coe]

/-- It is not zero. -/
theorem cnt_ne (b : Fin 50000 → BitVec 32) (g : Fin 512) : max (cntR b g) 1 ≠ 0 := (lt_of_lt_of_le one_pos (le_max_right _ _)).ne'

/-- A graph's mean of a column. -/
theorem mean_coe (g : Fin 512) (k : Fin 480) (H : Found V c b X M W) :
    Ideal.div ((accAt V c 25).1 (ix2 g k)) (max (cntCol (accAt V c 25) (ix2 g 0)) 1) = ((mean b X g k : ℝ) : EReal) := by
  rw [acc_sum g k H, cnt_max g H, div_coe _ _ (cnt_ne b g)]; rfl

/-- The table of shifted means when the region ends. -/
theorem meanms_final (g : Fin 512) (k : Fin 480) (H : Found V c b X M W) :
    (dat0 V c).arrAt 8 cfg0.N (ix2 g k : S512x480.Idx) = ((mean b X g k * M (chan k) : ℝ) : EReal) := by
  refine (congrFun (arr8 V c) _).trans ((meanms_entry _ _ _ g k).trans ?_)
  rw [mean_coe g k H, row480_apply, H.msc, EReal.coe_mul]

/-- The table of factors when the region ends, at a graph that has a row. -/
theorem norm_final (g : Fin 512) (k : Fin 480) (h : 1 ≤ cntR b g) (H : Found V c b X M W) :
    (dat0 V c).arrAt 9 cfg0.N (ix2 g k : S512x480.Idx) = ((rstd b X M g (chan k) : ℝ) : EReal) * W (chan k) := by
  have hv : ∀ q : Fin 224, Ideal.rsqrt (Ideal.div
          (∑ j : Fin 480, (accAt V c 25).2.1 (ix2 g j) * V c main_cst (ix2 j q : S480x224.Idx)
            + ((((M q : ℝ) : EReal) * ((M q : ℝ) : EReal) - ((2 : ℝ) : EReal) * ((M q : ℝ) : EReal))
                * ∑ j : Fin 480, ((mean b X g j : ℝ) : EReal) * ((mean b X g j : ℝ) : EReal) * V c main_cst (ix2 j q : S480x224.Idx))
              * ((max (cntR b g) 1 : ℝ) : EReal))
          (((max (cntR b g) 1 : ℝ) : EReal) * ((width q : ℝ) : EReal)) + ((eps : ℝ) : EReal)) = ((rstd b X M g q : ℝ) : EReal) := by
    intro q
    have e1 : ∀ j : Fin 480, (accAt V c 25).2.1 (ix2 g j) * V c main_cst (ix2 j q : S480x224.Idx)
        = ((segR b (fun n => X n j * X n j) g * (if chan j = q then 1 else 0) : ℝ) : EReal) := by
      intro j; rw [acc_sq g j H, H.et, EReal.coe_mul]; congr 1; split <;> simp
    have e2 : ∀ j : Fin 480, ((mean b X g j : ℝ) : EReal) * ((mean b X g j : ℝ) : EReal) * V c main_cst (ix2 j q : S480x224.Idx)
        = ((mean b X g j * mean b X g j * (if chan j = q then 1 else 0) : ℝ) : EReal) := by
      intro j; rw [H.et, EReal.coe_mul, EReal.coe_mul]; congr 1; split <;> simp
    rw [Finset.sum_congr rfl fun j _ => e1 j, Finset.sum_congr rfl fun j _ => e2 j, coe_sum, coe_sum]
    simp only [← EReal.coe_mul, ← EReal.coe_sub, ← EReal.coe_add]
    rw [div_coe _ _ (mul_ne_zero (cnt_ne b g) (width_pos q).ne'), var_eq b X M g h q, ← EReal.coe_add,
      rsqrt_coe _ (add_pos_of_nonneg_of_pos (var_nonneg b X M g q) eps_pos)]
    rfl
  refine (congrFun (arr9 V c) _).trans ((norm_entry _ _ _ _ _ _ _ _ _ g k).trans ?_)
  have hk : ∀ q : Fin 224, _ = (if chan k = q then ((rstd b X M g q : ℝ) : EReal) * W q else 0) := fun q => by
    have := congrArg (fun z => z * W q * (if chan k = q then (1 : EReal) else 0)) (hv q)
    refine this.trans ?_
    split <;> simp
  refine Eq.trans (Finset.sum_congr rfl fun q _ => ?_) ((Finset.sum_congr rfl fun q _ => hk q).trans ?_)
  · rw [cnt_max g H, row224_apply, row224_apply, row224_apply, H.ms, H.d, H.w, H.e, ofBits_two, ofBits_eps]
    have e3 : ∀ j : Fin 480, Ideal.div ((accAt V c 25).1 (ix2 g j)) ((max (cntR b g) 1 : ℝ) : EReal) = ((mean b X g j : ℝ) : EReal) :=
      fun j => by rw [← cnt_max g H]; exact mean_coe g j H
    simp only [e3]
  · rw [Finset.sum_ite_eq, if_pos (Finset.mem_univ _)]

end

end Cert.KernelIdeal.Value

end
-- ==== Proof.Rows.lean ====
/- Tables of 512 graphs read and added to by row numbers: the gathers and scatters of the two programs, entry by entry. -/
module

public import Idealize.ShloMosaic.Lib.Routing.OpsPair
public import Idealize.ShloMosaic.Lib.IdealHost
public import Idealize.ShloMosaic.Lib.Pointwise

@[expose] public section

noncomputable section

namespace Cert.GraphNorm

open Idealize.ShloMosaic
open scoped BigOperators

/-- A word below 512, read as a signed number. -/
theorem toInt_of_lt (w : BitVec 32) (h : w.toNat < 512) : w.toInt = (w.toNat : Int) := by
  rw [BitVec.toInt_eq_toNat_of_lt (by omega)]

/-- A word is a number below 512 as a signed number just when it is as an unsigned one. -/
theorem toInt_eq_iff (w : BitVec 32) (g : Fin 512) : w.toInt = (g.val : Int) ↔ w.toNat = g.val := by
  have hg := g.isLt
  have hw := w.isLt
  rw [BitVec.toInt_eq_toNat_cond]
  split <;> omega

/-- A matrix's rows taken by number. -/
theorem take2 {α : Type} {B n : ℕ} (ss : Fin 2 → ℕ) (hs : ss 0 = 1) (wf) (x : (⟨2, ![512, B]⟩ : Shape).Idx → α)
    (idx : IVec ⟨2, ![n, 1]⟩ 32) (r : Fin n) (k : Fin B) (g : Fin 512) (h : (idx (ix2 r 0)).toNat = g.val) :
    Host.gather (s := ⟨2, ![512, B]⟩) (t := ⟨2, ![n, B]⟩) ⟨[1], [0], [], [], [0], 1, ss, wf⟩ x idx (ix2 r k) = x (ix2 g k) := by
  unfold Host.gather
  refine congrArg x (funext fun a => Fin.ext ?_)
  have hg := g.isLt
  match a with
  | ⟨0, _⟩ =>
    show min (idx _).toInt.toNat (512 - ss 0) + 0 + 0 = g.val
    rw [show (idx _ : BitVec 32) = idx (ix2 r 0) from congrArg idx (funext fun b => by match b with | ⟨0, _⟩ => rfl | ⟨1, _⟩ => rfl),
      toInt_of_lt _ (by omega), h, hs]
    simp; omega
  | ⟨1, _⟩ =>
    show 0 + 0 + k.val = k.val
    omega

/-- A stack of matrices taken by number. -/
theorem take3 {α : Type} {A B n : ℕ} (ss : Fin 3 → ℕ) (hs : ss 0 = 1) (wf) (x : (⟨3, ![512, A, B]⟩ : Shape).Idx → α)
    (idx : IVec ⟨2, ![n, 1]⟩ 32) (r : Fin n) (i : Fin A) (k : Fin B) (g : Fin 512) (h : (idx (ix2 r 0)).toNat = g.val) :
    Host.gather (s := ⟨3, ![512, A, B]⟩) (t := ⟨3, ![n, A, B]⟩) ⟨[1, 2], [0], [], [], [0], 1, ss, wf⟩ x idx (ix3 r i k) = x (ix3 g i k) := by
  unfold Host.gather
  refine congrArg x (funext fun a => Fin.ext ?_)
  have hg := g.isLt
  match a with
  | ⟨0, _⟩ =>
    show min (idx _).toInt.toNat (512 - ss 0) + 0 + 0 = g.val
    rw [show (idx _ : BitVec 32) = idx (ix2 r 0) from congrArg idx (funext fun b => by match b with | ⟨0, _⟩ => rfl | ⟨1, _⟩ => rfl),
      toInt_of_lt _ (by omega), h, hs]
    simp; omega
  | ⟨1, _⟩ =>
    show 0 + 0 + i.val = i.val
    omega
  | ⟨2, _⟩ =>
    show 0 + 0 + k.val = k.val
    omega

/-- The columns of a one-row matrix taken by number. -/
theorem takeCol {α : Type} {B n : ℕ} (hB : B < 512) (ss : Fin 2 → ℕ) (hs : ss 1 = 1) (wf) (x : (⟨2, ![1, B]⟩ : Shape).Idx → α)
    (idx : IVec ⟨2, ![n, 1]⟩ 32) (r : Fin n) (g : Fin B) (h : (idx (ix2 r 0)).toNat = g.val) :
    Host.gather (s := ⟨2, ![1, B]⟩) (t := ⟨2, ![1, n]⟩) ⟨[0], [1], [], [], [1], 1, ss, wf⟩ x idx (ix2 0 r) = x (ix2 0 g) := by
  unfold Host.gather
  refine congrArg x (funext fun a => Fin.ext ?_)
  have hg := g.isLt
  match a with
  | ⟨0, _⟩ =>
    show 0 + 0 + 0 = 0
    omega
  | ⟨1, _⟩ =>
    show min (idx _).toInt.toNat (B - ss 1) + 0 + 0 = g.val
    rw [show (idx _ : BitVec 32) = idx (ix2 r 0) from congrArg idx (funext fun b => by match b with | ⟨0, _⟩ => rfl | ⟨1, _⟩ => rfl),
      toInt_of_lt _ (by omega), h, hs]
    simp; omega

/-- A table to which rows are added by number: each entry gains the sum of the rows of its number. -/
theorem add2 {B n : ℕ} (wf) (x : FVec Ideal ⟨2, ![512, B]⟩ .f32) (idx : IVec ⟨2, ![n, 1]⟩ 32)
    (u : FVec Ideal ⟨2, ![n, B]⟩ .f32) (g : Fin 512) (k : Fin B) :
    Host.scatterAdd (F := Ideal) (φ := .f32) (s := ⟨2, ![512, B]⟩) (u := ⟨2, ![n, B]⟩) ⟨[1], [0], [0], 1, wf⟩ x idx u (ix2 g k)
      = x (ix2 g k) + ∑ r : Fin n, if (idx (ix2 r 0)).toNat = g.val then u (ix2 r k) else (0 : EReal) := by
  let d : ScatterDims ⟨2, ![512, B]⟩ ⟨2, ![n, 1]⟩ ⟨2, ![n, B]⟩ := ⟨[1], [0], [0], 1, wf⟩
  have hit : ∀ (r : Fin n) (k' : Fin B), d.resultIdx? (ix2 r k') idx = some (ix2 g k) ↔ (idx (ix2 r 0)).toNat = g.val ∧ k' = k := by
    intro r k'
    rw [Routing.resultIdx?_eq_some]
    have e0 : d.start (ix2 r k') idx (0 : Fin 2) = (idx (ix2 r 0)).toInt :=
      show (idx _).toInt = _ from congrArg (fun i => (idx i).toInt) (funext fun b => by match b with | ⟨0, _⟩ => rfl | ⟨1, _⟩ => rfl)
    have w0 : d.window (ix2 r k') (0 : Fin 2) = 0 := rfl
    have e1 : d.start (ix2 r k') idx (1 : Fin 2) = 0 := rfl
    have w1 : d.window (ix2 r k') (1 : Fin 2) = k'.val := rfl
    constructor
    · intro h
      have h0 := h (0 : Fin 2)
      have h1 := h (1 : Fin 2)
      rw [e0, w0] at h0
      rw [e1, w1] at h1
      change _ = (g.val : Int) at h0
      change _ = (k.val : Int) at h1
      exact ⟨(toInt_eq_iff _ g).1 (by simpa using h0), Fin.ext (by omega)⟩
    · rintro ⟨h0, rfl⟩ a
      match a with
      | ⟨0, _⟩ =>
        show d.start (ix2 r k') idx (0 : Fin 2) + (d.window (ix2 r k') (0 : Fin 2) : Int) = (g.val : Int)
        rw [e0, w0, (toInt_eq_iff _ g).2 h0]; simp
      | ⟨1, _⟩ =>
        show d.start (ix2 r k') idx (1 : Fin 2) + (d.window (ix2 r k') (1 : Fin 2) : Int) = (k'.val : Int)
        rw [e1, w1]; simp
  show x (ix2 g k) + ∑ j ∈ Finset.univ.filter (fun j => d.resultIdx? j idx = some (ix2 g k)), u j = _
  rw [← Finset.sum_filter]
  refine congrArg _ (Finset.sum_nbij (fun r : Fin n => (ix2 r k : (⟨2, ![n, B]⟩ : Shape).Idx)) ?_ ?_ ?_ ?_).symm
  · intro r hr
    exact Finset.mem_filter.2 ⟨Finset.mem_univ _, (hit r k).2 ⟨(Finset.mem_filter.1 hr).2, rfl⟩⟩
  · intro r _ r' _ h
    exact ((ix2_inj _ _ _ _).1 h).1
  · intro j hj
    rw [eq_ix2 j] at hj ⊢
    obtain ⟨h0, h1⟩ := (hit _ _).1 (Finset.mem_filter.1 hj).2
    exact ⟨j 0, Finset.mem_coe.2 (Finset.mem_filter.2 ⟨Finset.mem_univ _, h0⟩), by rw [← h1]⟩
  · intro r _; rfl

/-- A list to which numbers are added by row number. -/
theorem add1 {n : ℕ} (wf) (x : FVec Ideal ⟨1, ![512]⟩ .f32) (idx : IVec ⟨2, ![n, 1]⟩ 32)
    (u : FVec Ideal ⟨1, ![n]⟩ .f32) (g : Fin 512) :
    Host.scatterAdd (F := Ideal) (φ := .f32) (s := ⟨1, ![512]⟩) (u := ⟨1, ![n]⟩) ⟨[], [0], [0], 1, wf⟩ x idx u (ix1 g)
      = x (ix1 g) + ∑ r : Fin n, if (idx (ix2 r 0)).toNat = g.val then u (ix1 r) else (0 : EReal) := by
  let d : ScatterDims ⟨1, ![512]⟩ ⟨2, ![n, 1]⟩ ⟨1, ![n]⟩ := ⟨[], [0], [0], 1, wf⟩
  have hit : ∀ r : Fin n, d.resultIdx? (ix1 r) idx = some (ix1 g) ↔ (idx (ix2 r 0)).toNat = g.val := by
    intro r
    rw [Routing.resultIdx?_eq_some]
    have e0 : d.start (ix1 r) idx (0 : Fin 1) = (idx (ix2 r 0)).toInt :=
      show (idx _).toInt = _ from congrArg (fun i => (idx i).toInt) (funext fun b => by match b with | ⟨0, _⟩ => rfl | ⟨1, _⟩ => rfl)
    have w0 : d.window (ix1 r) (0 : Fin 1) = 0 := rfl
    constructor
    · intro h
      have h0 := h (0 : Fin 1)
      rw [e0, w0] at h0
      change _ = (g.val : Int) at h0
      exact (toInt_eq_iff _ g).1 (by simpa using h0)
    · intro h0 a
      match a with
      | ⟨0, _⟩ =>
        show d.start (ix1 r) idx (0 : Fin 1) + (d.window (ix1 r) (0 : Fin 1) : Int) = (g.val : Int)
        rw [e0, w0, (toInt_eq_iff _ g).2 h0]; simp
  show x (ix1 g) + ∑ j ∈ Finset.univ.filter (fun j => d.resultIdx? j idx = some (ix1 g)), u j = _
  rw [← Finset.sum_filter]
  refine congrArg _ (Finset.sum_nbij (fun r : Fin n => (ix1 r : (⟨1, ![n]⟩ : Shape).Idx)) ?_ ?_ ?_ ?_).symm
  · intro r hr
    exact Finset.mem_filter.2 ⟨Finset.mem_univ _, (hit r).2 (Finset.mem_filter.1 hr).2⟩
  · intro r _ r' _ h
    exact (ix1_inj _ _).1 h
  · intro j hj
    rw [eq_ix1 j] at hj ⊢
    exact ⟨j 0, Finset.mem_coe.2 (Finset.mem_filter.2 ⟨Finset.mem_univ _, (hit _).1 (Finset.mem_filter.1 hj).2⟩), rfl⟩
  · intro r _; rfl

end Cert.GraphNorm

end
-- ==== Proof.KernelIdeal.Host.lean ====
/- What the host lines before the first region leave in its arrays. -/
module

public import proofs.«01_k».proof.Proof.KernelIdeal.Run
public import proofs.«01_k».proof.Proof.Rows
public import Idealize.ShloMosaic.Lib.StableHlo.ReadAt

@[expose] public section

noncomputable section

namespace Cert.KernelIdeal.Value

open Idealize.ShloMosaic Idealize.ShloMosaic.TcCoe Cert.KernelIdeal Cert.KernelIdeal.Gen Cert.GraphNorm
open scoped BigOperators

variable (U : Valuation τ sig (Elt Ideal))

/-- The graph words, in blocks. -/
theorem host_v1 (t : Fin 25) (r : Fin 2000) :
    (StableHlo.after (hostOps0 (F := Ideal)) U ↑main_v1 : S25x1x2000.Idx → BitVec 32) (ix3 t 0 r)
      = (U ↑main_arg1 : S50000.Idx → BitVec 32) (ix1 ⟨2000 * t.val + r.val, by omega⟩) := by
  after_reads_at
  exact congrArg _ (congrArg ix1 (Fin.ext (by show t.val * 2000 + r.val = 2000 * t.val + r.val; omega)))
/-- The shifts by channel. -/
theorem host_v5 (k : Fin 224) :
    (StableHlo.after (hostOps0 (F := Ideal)) U ↑main_v5 : S8x224.Idx → EReal) (ix2 0 k) = (U ↑main_arg2 : S1x224x1.Idx → EReal) (ix3 0 k 0) := by
  after_reads_at
/-- The widths. -/
theorem host_v17 (k : Fin 224) :
    (StableHlo.after (hostOps0 (F := Ideal)) U ↑main_v17 : S8x224.Idx → EReal) (ix2 0 k) = Ideal.ofBits .f32 (lit3 k) := by
  after_reads_at
  exact congrArg (fun q => Ideal.ofBits .f32 (lit3 q)) (Fin.ext (Shape.rowMajor_val_one (d := ![224]) (ix1 k)))
/-- The weights. -/
theorem host_v20 (k : Fin 224) :
    (StableHlo.after (hostOps0 (F := Ideal)) U ↑main_v20 : S8x224.Idx → EReal) (ix2 0 k) = (U ↑main_arg3 : S1x224.Idx → EReal) (ix2 0 k) := by
  after_reads_at
/-- The biases of the columns that are channels of one column. -/
theorem host_v25_bias (k : Fin 480) (h : k.val < 128) :
    (StableHlo.after (hostOps0 (F := Ideal)) U ↑main_v25 : S8x480.Idx → EReal) (ix2 0 k)
      = (U ↑main_arg4 : S1x128.Idx → EReal) (ix2 0 ⟨k.val, h⟩) := by
  after_reads_at
  rw [dif_pos h]
  after_reads_at
/-- The other columns' biases are zero. -/
theorem host_v25_zero (k : Fin 480) (h : ¬ k.val < 128) :
    (StableHlo.after (hostOps0 (F := Ideal)) U ↑main_v25 : S8x480.Idx → EReal) (ix2 0 k) = (0 : EReal) := by
  after_reads_at
  rw [dif_neg h]
  after_reads_at
/-- The table of columns by channels. -/
theorem host_cst (j : Fin 480) (k : Fin 224) :
    (StableHlo.after (hostOps0 (F := Ideal)) U ↑main_cst : S480x224.Idx → EReal) (ix2 j k)
      = Ideal.ofBits .f32 (lit0 ⟨j.val * 224 + k.val, by omega⟩) := by
  after_reads_at
  exact congrArg (fun q => Ideal.ofBits .f32 (lit0 q)) (Fin.ext (Shape.rowMajor_val_two (d := ![480, 224]) (ix2 j k)))
/-- The table of channels by columns. -/
theorem host_cst_0 (j : Fin 480) (k : Fin 224) :
    (StableHlo.after (hostOps0 (F := Ideal)) U ↑main_cst_0 : S224x480.Idx → EReal) (ix2 k j)
      = Ideal.ofBits .f32 (lit1 ⟨k.val * 480 + j.val, by omega⟩) := by
  after_reads_at
  exact congrArg (fun q => Ideal.ofBits .f32 (lit1 q)) (Fin.ext (Shape.rowMajor_val_two (d := ![224, 480]) (ix2 k j)))
/-- The shifts by column, where the channel words name channel `q`. -/
theorem host_v14 (j : Fin 480) (q : Fin 224) (h : lit2 j = BitVec.ofNat 32 q.val) :
    (StableHlo.after (hostOps0 (F := Ideal)) U ↑main_v14 : S8x480.Idx → EReal) (ix2 0 j) = (U ↑main_arg2 : S1x224x1.Idx → EReal) (ix3 0 q 0) := by
  after_reads_at
  refine (takeCol (by decide) _ rfl _ _ _ j q ?_).trans rfl
  pointwise
  have e : S480.rowMajor (ix1 j) = j := Fin.ext (Shape.rowMajor_val_one (d := ![480]) (ix1 j))
  rw [e, h, BitVec.toNat_ofNat]
  have := q.isLt
  omega

end Cert.KernelIdeal.Value

end
-- ==== Proof.KernelIdeal.Lit.Check.lean ====
/- A test, by evaluation, of the entries of the two tables of channels that the host program holds as constants. -/
module

public import proofs.«01_k».proof.KernelIdeal
public import proofs.«01_k».proof.Proof.Gen.KernelIdeal

@[expose] public section

noncomputable section

namespace Cert.KernelIdeal.Lit

open Idealize.ShloMosaic Cert.KernelIdeal Cert.KernelIdeal.Gen

/-- The channel of a column. -/
def chanN (c : Nat) : Nat :=
  bif Nat.blt c 128 then c else bif Nat.blt c 320 then 128 + (c - 128) / 3 else 192 + (c - 320) / 5

/-- Whether entry `i` of the table of columns by channels is one just where the channel is the column's. -/
def okT (i : Nat) : Bool := Nat.beq (lit0t i).toNat (bif Nat.beq (chanN (i / 224)) (i % 224) then 0x3F800000 else 0)

/-- Whether entry `i` of the table of channels by columns is one just where the channel is the column's. -/
def okE (i : Nat) : Bool := Nat.beq (lit1t i).toNat (bif Nat.beq (chanN (i % 480)) (i / 480) then 0x3F800000 else 0)

/-- A test passed by each of `N` numbers from `off`. -/
def allB (p : Nat → Bool) (off N : Nat) : Bool := Nat.rec true (fun n ih => p (Nat.add off n) && ih) N

/-- It is passed by each. -/
theorem allB_spec (p : Nat → Bool) (off N : Nat) (h : allB p off N = true) (i : Nat) (h1 : off ≤ i) (h2 : i < off + N) : p i = true := by
  induction N with
  | zero => omega
  | succ N ih =>
    have h' : (p (off + N) && allB p off N) = true := h
    rw [Bool.and_eq_true] at h'
    by_cases e : i = off + N
    · rw [e]; exact h'.1
    · exact ih h'.2 (by omega)

end Cert.KernelIdeal.Lit

end
-- ==== Proof.KernelIdeal.Lit.T0.lean ====
/- A quarter of the table of columns by channels, tested by evaluation. -/
module

public import proofs.«01_k».proof.Proof.KernelIdeal.Lit.Check

@[expose] public section

noncomputable section

namespace Cert.KernelIdeal.Lit

/-- Entries 0 to 6719. -/
theorem passT0_0 : allB okT 0 6720 = true := by decide +kernel
/-- Entries 6720 to 13439. -/
theorem passT0_1 : allB okT 6720 6720 = true := by decide +kernel
/-- Entries 13440 to 20159. -/
theorem passT0_2 : allB okT 13440 6720 = true := by decide +kernel
/-- Entries 20160 to 26879. -/
theorem passT0_3 : allB okT 20160 6720 = true := by decide +kernel

/-- Entries 0 to 26879 pass. -/
theorem passT0 (i : Nat) (h1 : 0 ≤ i) (h2 : i < 26880) : okT i = true := by
  rcases Nat.lt_or_ge i 6720 with h | h
  · exact allB_spec _ _ _ passT0_0 i (by omega) (by omega)
  rcases Nat.lt_or_ge i 13440 with h | h
  · exact allB_spec _ _ _ passT0_1 i (by omega) (by omega)
  rcases Nat.lt_or_ge i 20160 with h | h
  · exact allB_spec _ _ _ passT0_2 i (by omega) (by omega)
  exact allB_spec _ _ _ passT0_3 i (by omega) (by omega)

end Cert.KernelIdeal.Lit

end
-- ==== Proof.KernelIdeal.Lit.T1.lean ====
/- A quarter of the table of columns by channels, tested by evaluation. -/
module

public import proofs.«01_k».proof.Proof.KernelIdeal.Lit.Check

@[expose] public section

noncomputable section

namespace Cert.KernelIdeal.Lit

/-- Entries 26880 to 33599. -/
theorem passT1_0 : allB okT 26880 6720 = true := by decide +kernel
/-- Entries 33600 to 40319. -/
theorem passT1_1 : allB okT 33600 6720 = true := by decide +kernel
/-- Entries 40320 to 47039. -/
theorem passT1_2 : allB okT 40320 6720 = true := by decide +kernel
/-- Entries 47040 to 53759. -/
theorem passT1_3 : allB okT 47040 6720 = true := by decide +kernel

/-- Entries 26880 to 53759 pass. -/
theorem passT1 (i : Nat) (h1 : 26880 ≤ i) (h2 : i < 53760) : okT i = true := by
  rcases Nat.lt_or_ge i 33600 with h | h
  · exact allB_spec _ _ _ passT1_0 i (by omega) (by omega)
  rcases Nat.lt_or_ge i 40320 with h | h
  · exact allB_spec _ _ _ passT1_1 i (by omega) (by omega)
  rcases Nat.lt_or_ge i 47040 with h | h
  · exact allB_spec _ _ _ passT1_2 i (by omega) (by omega)
  exact allB_spec _ _ _ passT1_3 i (by omega) (by omega)

end Cert.KernelIdeal.Lit

end
-- ==== Proof.KernelIdeal.Lit.T2.lean ====
/- A quarter of the table of columns by channels, tested by evaluation. -/
module

public import proofs.«01_k».proof.Proof.KernelIdeal.Lit.Check

@[expose] public section

noncomputable section

namespace Cert.KernelIdeal.Lit

/-- Entries 53760 to 60479. -/
theorem passT2_0 : allB okT 53760 6720 = true := by decide +kernel
/-- Entries 60480 to 67199. -/
theorem passT2_1 : allB okT 60480 6720 = true := by decide +kernel
/-- Entries 67200 to 73919. -/
theorem passT2_2 : allB okT 67200 6720 = true := by decide +kernel
/-- Entries 73920 to 80639. -/
theorem passT2_3 : allB okT 73920 6720 = true := by decide +kernel

/-- Entries 53760 to 80639 pass. -/
theorem passT2 (i : Nat) (h1 : 53760 ≤ i) (h2 : i < 80640) : okT i = true := by
  rcases Nat.lt_or_ge i 60480 with h | h
  · exact allB_spec _ _ _ passT2_0 i (by omega) (by omega)
  rcases Nat.lt_or_ge i 67200 with h | h
  · exact allB_spec _ _ _ passT2_1 i (by omega) (by omega)
  rcases Nat.lt_or_ge i 73920 with h | h
  · exact allB_spec _ _ _ passT2_2 i (by omega) (by omega)
  exact allB_spec _ _ _ passT2_3 i (by omega) (by omega)

end Cert.KernelIdeal.Lit

end
-- ==== Proof.KernelIdeal.Lit.T3.lean ====
/- A quarter of the table of columns by channels, tested by evaluation. -/
module

public import proofs.«01_k».proof.Proof.KernelIdeal.Lit.Check

@[expose] public section

noncomputable section

namespace Cert.KernelIdeal.Lit

/-- Entries 80640 to 87359. -/
theorem passT3_0 : allB okT 80640 6720 = true := by decide +kernel
/-- Entries 87360 to 94079. -/
theorem passT3_1 : allB okT 87360 6720 = true := by decide +kernel
/-- Entries 94080 to 100799. -/
theorem passT3_2 : allB okT 94080 6720 = true := by decide +kernel
/-- Entries 100800 to 107519. -/
theorem passT3_3 : allB okT 100800 6720 = true := by decide +kernel

/-- Entries 80640 to 107519 pass. -/
theorem passT3 (i : Nat) (h1 : 80640 ≤ i) (h2 : i < 107520) : okT i = true := by
  rcases Nat.lt_or_ge i 87360 with h | h
  · exact allB_spec _ _ _ passT3_0 i (by omega) (by omega)
  rcases Nat.lt_or_ge i 94080 with h | h
  · exact allB_spec _ _ _ passT3_1 i (by omega) (by omega)
  rcases Nat.lt_or_ge i 100800 with h | h
  · exact allB_spec _ _ _ passT3_2 i (by omega) (by omega)
  exact allB_spec _ _ _ passT3_3 i (by omega) (by omega)

end Cert.KernelIdeal.Lit

end
-- ==== Proof.KernelIdeal.Lit.E0.lean ====
/- A quarter of the table of channels by columns, tested by evaluation. -/
module

public import proofs.«01_k».proof.Proof.KernelIdeal.Lit.Check

@[expose] public section

noncomputable section

namespace Cert.KernelIdeal.Lit

/-- Entries 0 to 6719. -/
theorem passE0_0 : allB okE 0 6720 = true := by decide +kernel
/-- Entries 6720 to 13439. -/
theorem passE0_1 : allB okE 6720 6720 = true := by decide +kernel
/-- Entries 13440 to 20159. -/
theorem passE0_2 : allB okE 13440 6720 = true := by decide +kernel
/-- Entries 20160 to 26879. -/
theorem passE0_3 : allB okE 20160 6720 = true := by decide +kernel

/-- Entries 0 to 26879 pass. -/
theorem passE0 (i : Nat) (h1 : 0 ≤ i) (h2 : i < 26880) : okE i = true := by
  rcases Nat.lt_or_ge i 6720 with h | h
  · exact allB_spec _ _ _ passE0_0 i (by omega) (by omega)
  rcases Nat.lt_or_ge i 13440 with h | h
  · exact allB_spec _ _ _ passE0_1 i (by omega) (by omega)
  rcases Nat.lt_or_ge i 20160 with h | h
  · exact allB_spec _ _ _ passE0_2 i (by omega) (by omega)
  exact allB_spec _ _ _ passE0_3 i (by omega) (by omega)

end Cert.KernelIdeal.Lit

end
-- ==== Proof.KernelIdeal.Lit.E1.lean ====
/- A quarter of the table of channels by columns, tested by evaluation. -/
module

public import proofs.«01_k».proof.Proof.KernelIdeal.Lit.Check

@[expose] public section

noncomputable section

namespace Cert.KernelIdeal.Lit

/-- Entries 26880 to 33599. -/
theorem passE1_0 : allB okE 26880 6720 = true := by decide +kernel
/-- Entries 33600 to 40319. -/
theorem passE1_1 : allB okE 33600 6720 = true := by decide +kernel
/-- Entries 40320 to 47039. -/
theorem passE1_2 : allB okE 40320 6720 = true := by decide +kernel
/-- Entries 47040 to 53759. -/
theorem passE1_3 : allB okE 47040 6720 = true := by decide +kernel

/-- Entries 26880 to 53759 pass. -/
theorem passE1 (i : Nat) (h1 : 26880 ≤ i) (h2 : i < 53760) : okE i = true := by
  rcases Nat.lt_or_ge i 33600 with h | h
  · exact allB_spec _ _ _ passE1_0 i (by omega) (by omega)
  rcases Nat.lt_or_ge i 40320 with h | h
  · exact allB_spec _ _ _ passE1_1 i (by omega) (by omega)
  rcases Nat.lt_or_ge i 47040 with h | h
  · exact allB_spec _ _ _ passE1_2 i (by omega) (by omega)
  exact allB_spec _ _ _ passE1_3 i (by omega) (by omega)

end Cert.KernelIdeal.Lit

end
-- ==== Proof.KernelIdeal.Lit.E2.lean ====
/- A quarter of the table of channels by columns, tested by evaluation. -/
module

public import proofs.«01_k».proof.Proof.KernelIdeal.Lit.Check

@[expose] public section

noncomputable section

namespace Cert.KernelIdeal.Lit

/-- Entries 53760 to 60479. -/
theorem passE2_0 : allB okE 53760 6720 = true := by decide +kernel
/-- Entries 60480 to 67199. -/
theorem passE2_1 : allB okE 60480 6720 = true := by decide +kernel
/-- Entries 67200 to 73919. -/
theorem passE2_2 : allB okE 67200 6720 = true := by decide +kernel
/-- Entries 73920 to 80639. -/
theorem passE2_3 : allB okE 73920 6720 = true := by decide +kernel

/-- Entries 53760 to 80639 pass. -/
theorem passE2 (i : Nat) (h1 : 53760 ≤ i) (h2 : i < 80640) : okE i = true := by
  rcases Nat.lt_or_ge i 60480 with h | h
  · exact allB_spec _ _ _ passE2_0 i (by omega) (by omega)
  rcases Nat.lt_or_ge i 67200 with h | h
  · exact allB_spec _ _ _ passE2_1 i (by omega) (by omega)
  rcases Nat.lt_or_ge i 73920 with h | h
  · exact allB_spec _ _ _ passE2_2 i (by omega) (by omega)
  exact allB_spec _ _ _ passE2_3 i (by omega) (by omega)

end Cert.KernelIdeal.Lit

end
-- ==== Proof.KernelIdeal.Lit.E3.lean ====
/- A quarter of the table of channels by columns, tested by evaluation. -/
module

public import proofs.«01_k».proof.Proof.KernelIdeal.Lit.Check

@[expose] public section

noncomputable section

namespace Cert.KernelIdeal.Lit

/-- Entries 80640 to 87359. -/
theorem passE3_0 : allB okE 80640 6720 = true := by decide +kernel
/-- Entries 87360 to 94079. -/
theorem passE3_1 : allB okE 87360 6720 = true := by decide +kernel
/-- Entries 94080 to 100799. -/
theorem passE3_2 : allB okE 94080 6720 = true := by decide +kernel
/-- Entries 100800 to 107519. -/
theorem passE3_3 : allB okE 100800 6720 = true := by decide +kernel

/-- Entries 80640 to 107519 pass. -/
theorem passE3 (i : Nat) (h1 : 80640 ≤ i) (h2 : i < 107520) : okE i = true := by
  rcases Nat.lt_or_ge i 87360 with h | h
  · exact allB_spec _ _ _ passE3_0 i (by omega) (by omega)
  rcases Nat.lt_or_ge i 94080 with h | h
  · exact allB_spec _ _ _ passE3_1 i (by omega) (by omega)
  rcases Nat.lt_or_ge i 100800 with h | h
  · exact allB_spec _ _ _ passE3_2 i (by omega) (by omega)
  exact allB_spec _ _ _ passE3_3 i (by omega) (by omega)

end Cert.KernelIdeal.Lit

end
-- ==== Proof.KernelIdeal.Lit.All.lean ====
/- The two tables of channels, entry by entry. -/
module

public import proofs.«01_k».proof.Proof.KernelIdeal.Lit.T0
public import proofs.«01_k».proof.Proof.KernelIdeal.Lit.T1
public import proofs.«01_k».proof.Proof.KernelIdeal.Lit.T2
public import proofs.«01_k».proof.Proof.KernelIdeal.Lit.T3
public import proofs.«01_k».proof.Proof.KernelIdeal.Lit.E0
public import proofs.«01_k».proof.Proof.KernelIdeal.Lit.E1
public import proofs.«01_k».proof.Proof.KernelIdeal.Lit.E2
public import proofs.«01_k».proof.Proof.KernelIdeal.Lit.E3
public import proofs.«01_k».proof.Proof.Maths

@[expose] public section

noncomputable section

namespace Cert.KernelIdeal.Lit

open Idealize.ShloMosaic Cert.KernelIdeal Cert.GraphNorm

/-- The channel as a number is the channel. -/
theorem chanN_eq (c : Fin 480) : chanN c.val = (chan c).val := by
  unfold chanN chan
  have blt (a b : Nat) : Nat.blt a b = decide (a < b) := by
    rw [Bool.eq_iff_iff, decide_eq_true_eq]; exact iff_of_eq Nat.blt_eq
  rw [blt, blt]
  split_ifs <;> simp [*]

/-- Every entry of the table of columns by channels passes. -/
theorem okT_all (i : Nat) (h : i < 107520) : okT i = true := by
  rcases Nat.lt_or_ge i 26880 with h0 | h0
  · exact passT0 i (by omega) (by omega)
  rcases Nat.lt_or_ge i 53760 with h1 | h1
  · exact passT1 i (by omega) (by omega)
  rcases Nat.lt_or_ge i 80640 with h2 | h2
  · exact passT2 i (by omega) (by omega)
  · exact passT3 i (by omega) (by omega)

/-- Every entry of the table of channels by columns passes. -/
theorem okE_all (i : Nat) (h : i < 107520) : okE i = true := by
  rcases Nat.lt_or_ge i 26880 with h0 | h0
  · exact passE0 i (by omega) (by omega)
  rcases Nat.lt_or_ge i 53760 with h1 | h1
  · exact passE1 i (by omega) (by omega)
  rcases Nat.lt_or_ge i 80640 with h2 | h2
  · exact passE2 i (by omega) (by omega)
  · exact passE3 i (by omega) (by omega)

/-- The word of the table of columns by channels: one where the channel is the column's, zero elsewhere. -/
theorem lit0_eq (i : Fin 107520) (c : Fin 480) (k : Fin 224) (hi : i.val = c.val * 224 + k.val) :
    lit0 i = if chan c = k then 0x3F800000#32 else 0x00000000#32 := by
  have h := okT_all i.val i.isLt
  have hc : i.val / 224 = c.val := by omega
  have hk : i.val % 224 = k.val := by omega
  have e := Nat.eq_of_beq_eq_true h
  rw [hc, hk, chanN_eq] at e
  apply BitVec.eq_of_toNat_eq
  show (lit0t i.val).toNat = _
  rw [e]
  by_cases hck : chan c = k
  · rw [if_pos hck, hck]; simp
  · have : Nat.beq (chan c).val k.val = false := by
      rw [Bool.eq_false_iff]; exact fun q => hck (Fin.ext (Nat.eq_of_beq_eq_true q))
    rw [if_neg hck, this]; rfl

/-- The word of the table of channels by columns: one where the channel is the column's, zero elsewhere. -/
theorem lit1_eq (i : Fin 107520) (c : Fin 480) (k : Fin 224) (hi : i.val = k.val * 480 + c.val) :
    lit1 i = if chan c = k then 0x3F800000#32 else 0x00000000#32 := by
  have h := okE_all i.val i.isLt
  have hc : i.val % 480 = c.val := by omega
  have hk : i.val / 480 = k.val := by omega
  have e := Nat.eq_of_beq_eq_true h
  rw [hc, hk, chanN_eq] at e
  apply BitVec.eq_of_toNat_eq
  show (lit1t i.val).toNat = _
  rw [e]
  by_cases hck : chan c = k
  · rw [if_pos hck, hck]; simp
  · have : Nat.beq (chan c).val k.val = false := by
      rw [Bool.eq_false_iff]; exact fun q => hck (Fin.ext (Nat.eq_of_beq_eq_true q))
    rw [if_neg hck, this]; rfl

/-- The channel words. -/
theorem lit2_eq (c : Fin 480) : lit2 c = BitVec.ofNat 32 (chan c).val := by
  revert c; decide +kernel

/-- The words of the widths: one, three and five. -/
theorem lit3_eq (k : Fin 224) : lit3 k = if k.val < 128 then 0x3F800000#32 else if k.val < 192 then 0x40400000#32 else 0x40A00000#32 := by
  revert k; decide +kernel

end Cert.KernelIdeal.Lit

end
-- ==== Proof.KernelIdeal.Result.lean ====
/- The kernel's result, entry by entry, over the extended reals. -/
module

public import proofs.«01_k».proof.Proof.KernelIdeal.Tables
public import proofs.«01_k».proof.Proof.KernelIdeal.Host
public import proofs.«01_k».proof.Proof.KernelIdeal.Lit.All

@[expose] public section

noncomputable section

namespace Cert.KernelIdeal.Value

open Idealize.ShloMosaic Idealize.ShloMosaic.TcCoe Cert.KernelIdeal Cert.KernelIdeal.Gen Cert.GraphNorm Cert.KernelIdeal.Whole Cert.KernelIdeal.Lit
open scoped BigOperators

variable (m : (ℓ : Loc nD τ sig) → Buf (Elt Ideal) ℓ) (ρ : Dev nD → PrngReg) (c : Dev nD)

/-- What the kernel is given: graph words below 512, real rows, real shifts, weights, and biases of the first 128 columns. -/
structure Given (b : Fin 50000 → BitVec 32) (X : Fin 50000 → Fin 480 → ℝ) (M : Fin 224 → ℝ) (W : Fin 224 → EReal) (β : Fin 480 → EReal) : Prop where
  words : ∀ n : Fin 50000, (m ((c : Thread nD τ).loc main_arg1) : S50000.Idx → BitVec 32) (ix1 n) = b n
  rows : ∀ (n : Fin 50000) (k : Fin 480), (m ((c : Thread nD τ).loc main_arg0) : S50000x480.Idx → EReal) (ix2 n k) = ((X n k : ℝ) : EReal)
  shift : ∀ k : Fin 224, (m ((c : Thread nD τ).loc main_arg2) : S1x224x1.Idx → EReal) (ix3 0 k 0) = ((M k : ℝ) : EReal)
  weight : ∀ k : Fin 224, (m ((c : Thread nD τ).loc main_arg3) : S1x224.Idx → EReal) (ix2 0 k) = W k
  bias : ∀ k : Fin 128, (m ((c : Thread nD τ).loc main_arg4) : S1x128.Idx → EReal) (ix2 0 k) = β ⟨k.val, by omega⟩
  none : ∀ k : Fin 480, ¬ k.val < 128 → β k = 0

variable {m c} {b : Fin 50000 → BitVec 32} {X : Fin 50000 → Fin 480 → ℝ} {M : Fin 224 → ℝ} {W : Fin 224 → EReal} {β : Fin 480 → EReal}

/-- An entry of a table of channels, from its word. -/
theorem table_word (p : Prop) [Decidable p] :
    Ideal.ofBits .f32 (if p then 0x3F800000#32 else 0x00000000#32) = if p then (1 : EReal) else 0 := by
  split
  · exact Ideal.ofBits_one_f32
  · exact Ideal.ofBits_zero_f32

/-- A width, from its word. -/
theorem width_word (k : Fin 224) : Ideal.ofBits .f32 (lit3 k) = ((width k : ℝ) : EReal) := by
  rw [lit3_eq]
  unfold width
  split
  · rw [EReal.coe_one]; exact Ideal.ofBits_one_f32
  · split
    · exact ofBits_three
    · exact ofBits_five

/-- The host lines leave the statistics region what it needs. -/
theorem found (H : Given m c b X M W β) : Found (B1 m ρ) c b X M W where
  words t r := (host_v1 (W0 m ρ c) t r).trans (H.words (rowOf t r))
  rows n k := (congrFun (W1_args m ρ c main_arg0 (by decide)) (ix2 n k)).trans (H.rows n k)
  et j k := (host_cst (W0 m ρ c) j k).trans ((congrArg (Ideal.ofBits .f32) (lit0_eq _ j k rfl)).trans (table_word _))
  e k j := (host_cst_0 (W0 m ρ c) j k).trans ((congrArg (Ideal.ofBits .f32) (lit1_eq _ j k rfl)).trans (table_word _))
  ms k := (host_v5 (W0 m ρ c) k).trans (H.shift k)
  msc j := (host_v14 (W0 m ρ c) j (chan j) (lit2_eq j)).trans (H.shift (chan j))
  d k := (host_v17 (W0 m ρ c) k).trans (width_word k)
  w k := (host_v20 (W0 m ρ c) k).trans (H.weight k)

/-- The biases by column. -/
theorem biases (H : Given m c b X M W β) (k : Fin 480) : (W1 m ρ c ↑main_v25 : S8x480.Idx → EReal) (ix2 0 k) = β k := by
  by_cases h : k.val < 128
  · exact (host_v25_bias (W0 m ρ c) k h).trans (H.bias ⟨k.val, h⟩)
  · exact (host_v25_zero (W0 m ρ c) k h).trans (H.none k h).symm

/-- Every row is in a block. -/
theorem row_split (n : Fin 50000) : ∃ (t : Fin 25) (r : Fin 2000), n = rowOf t r :=
  ⟨⟨n.val / 2000, by omega⟩, ⟨n.val % 2000, by omega⟩, Fin.ext (by show n.val = 2000 * (n.val / 2000) + n.val % 2000; omega)⟩

/-- The result at any row and column. -/
theorem entry (H : Given m c b X M W β) (n : Fin 50000) (k : Fin 480) (g : Fin 512) (h : (b n).toNat = g.val) :
    ((dat1 (B2 m ρ) c).arrAt 5 cfg1.N : S50000x480.Idx → EReal) (ix2 n k) = out b X M W β g n k := by
  have h1 : 1 ≤ cntR b g := one_le_cntR b g n h
  obtain ⟨t, r, rfl⟩ := row_split n
  have F := found ρ H
  have e1 : (B2 m ρ c main_v1 : S25x1x2000.Idx → BitVec 32) (ix3 t 0 r) = b (rowOf t r) :=
    (congrFun (W2_of m ρ c main_v1 (by decide)) (ix3 t 0 r)).trans (F.words t r)
  have e0 : (B2 m ρ c main_arg0 : S50000x480.Idx → EReal) (ix2 (rowOf t r) k) = ((X (rowOf t r) k : ℝ) : EReal) :=
    (congrFun (W2_of m ρ c main_arg0 (by decide)) (ix2 (rowOf t r) k)).trans (F.rows _ k)
  have e25 : (B2 m ρ c main_v25 : S8x480.Idx → EReal) (ix2 0 k) = β k :=
    (congrFun (W2_of m ρ c main_v25 (by decide)) (ix2 0 k)).trans (biases ρ H k)
  have e8 : (B2 m ρ c main_v26_0 : S512x480.Idx → EReal) (ix2 g k) = ((mean b X g k * M (chan k) : ℝ) : EReal) :=
    (congrFun (W2_arr m ρ c 8) (ix2 g k)).trans (meanms_final g k F)
  have e9 : (B2 m ρ c main_v26_1 : S512x480.Idx → EReal) (ix2 g k) = ((rstd b X M g (chan k) : ℝ) : EReal) * W (chan k) :=
    (congrFun (W2_arr m ρ c 9) (ix2 g k)).trans (norm_final g k h1 F)
  refine (final1 (B2 m ρ) c t r k).trans ?_
  refine (congrFun (after1_5 (B2 m ρ) c t) (ix2 r k)).trans ?_
  refine (apply_entry _ _ _ _ _ r k g ((congrArg BitVec.toNat ((words1 (B2 m ρ) c t r).trans e1)).trans h)).trans ?_
  have a0 := (rows1 (B2 m ρ) c t r k).trans e0
  have a2 := (congrFun (whole1_2 (B2 m ρ) c t) (ix2 g k)).trans e8
  have a3 := (congrFun (whole1_3 (B2 m ρ) c t) (ix2 g k)).trans e9
  have a4 := (row480_apply _ k).trans ((congrFun (whole1_4 (B2 m ρ) c t) (ix2 0 k)).trans e25)
  refine (congrArg₂ (fun x y : EReal => x + y) (congrArg₂ (fun x y : EReal => x * y) (congrArg₂ (fun x y : EReal => x - y) a0 a2) a3) a4).trans ?_
  show (((X (rowOf t r) k : ℝ) : EReal) - ((mean b X g k * M (chan k) : ℝ) : EReal)) * _ + _ = _
  rw [← EReal.coe_sub]
  rfl

end Cert.KernelIdeal.Value

end
-- ==== Proof.ReferenceIdeal.Entry.lean ====
/- The reference's result, entry by entry, over the extended reals. -/
module

public import proofs.«01_k».proof.Proof.Gen.ReferenceIdeal.Run
public import proofs.«01_k».proof.Proof.Rows
public import proofs.«01_k».proof.Proof.Maths
public import Idealize.ShloMosaic.Lib.Pointwise

@[expose] public section

noncomputable section

namespace Cert.ReferenceIdeal.Value

open Idealize.ShloMosaic Idealize.ShloMosaic.TcCoe Cert.ReferenceIdeal Cert.ReferenceIdeal.Gen Cert.GraphNorm
open scoped BigOperators

variable (V0 : Valuation τ sig (Elt Ideal))

/-- What the reference is given: graph words below 512, real rows, real shifts, weights, and biases of the first 128 columns. -/
structure Given (b : Fin 50000 → BitVec 32) (X : Fin 50000 → Fin 480 → ℝ) (M : Fin 224 → ℝ) (W : Fin 224 → EReal) (β : Fin 480 → EReal) : Prop where
  words : ∀ n : Fin 50000, (V0 ↑main_arg1 : S50000.Idx → BitVec 32) (ix1 n) = b n
  small : ∀ n : Fin 50000, (b n).toNat < 512
  rows : ∀ (n : Fin 50000) (k : Fin 480), (V0 ↑main_arg0 : S50000x480.Idx → EReal) (ix2 n k) = ((X n k : ℝ) : EReal)
  shift : ∀ k : Fin 224, (V0 ↑main_arg2 : S1x224x1.Idx → EReal) (ix3 0 k 0) = ((M k : ℝ) : EReal)
  weight : ∀ k : Fin 224, (V0 ↑main_arg3 : S1x224.Idx → EReal) (ix2 0 k) = W k
  bias : ∀ k : Fin 128, (V0 ↑main_arg4 : S1x128.Idx → EReal) (ix2 0 k) = β ⟨k.val, by omega⟩
  none : ∀ k : Fin 480, ¬ k.val < 128 → β k = 0

variable {V0} {b : Fin 50000 → BitVec 32} {X : Fin 50000 → Fin 480 → ℝ} {M : Fin 224 → ℝ} {W : Fin 224 → EReal} {β : Fin 480 → EReal}

/-- A count of a graph's rows, among the extended reals. -/
theorem count_of (g : Fin 512) : max (∑ n, if (b n).toNat = g.val then (1 : EReal) else 0) 1 = ((max (cntR b g) 1 : ℝ) : EReal) := by
  rw [show (∑ n, if (b n).toNat = g.val then (1 : EReal) else 0) = ((cntR b g : ℝ) : EReal) from seg_coe b (fun _ => 1) g, ← EReal.coe_one, max_coe]

/-- The count that divides is not zero. -/
theorem count_ne (g : Fin 512) : max (cntR b g) 1 ≠ 0 := (lt_of_lt_of_le one_pos (le_max_right _ _)).ne'

/-- A graph's variance from a field of its rows over the columns of a channel. -/
theorem var_of {D : ℕ} (g : Fin 512) (k : Fin 224) (f : Fin 50000 → Fin D → EReal) (col : Fin D → Fin 480)
    (hf : ∀ n j, (b n).toNat = g.val → f n j = ((field b X M g n (col j) : ℝ) : EReal))
    (hc : ∀ φ : Fin 480 → ℝ, (∑ c, if chan c = k then φ c else 0) = ∑ j, φ (col j)) (w : EReal) (hw : w = ((width k : ℝ) : EReal)) :
    Ideal.div (∑ n, if (b n).toNat = g.val then Ideal.div (∑ j, f n j * f n j) w else 0)
      (max (∑ n, if (b n).toNat = g.val then (1 : EReal) else 0) 1) = ((var b X M g k : ℝ) : EReal) := by
  rw [count_of]
  have e : (∑ n, if (b n).toNat = g.val then Ideal.div (∑ j, f n j * f n j) w else 0)
      = ((segR b (fun n => (∑ c, if chan c = k then field b X M g n c * field b X M g n c else 0) / width k) g : ℝ) : EReal) := by
    rw [← seg_coe]
    refine Finset.sum_congr rfl fun n _ => ?_
    by_cases h : (b n).toNat = g.val
    · dsimp only
      rw [if_pos h, if_pos h, hw, hc fun c => field b X M g n c * field b X M g n c, ← div_coe _ _ (width_pos k).ne', ← coe_sum]
      refine congrArg (fun y => Ideal.div y _) (Finset.sum_congr rfl fun j _ => ?_)
      rw [hf n j h, EReal.coe_mul]
    · rw [if_neg h, if_neg h]
  rw [e, div_coe _ _ (count_ne g)]
  rfl

/-- The power minus one half of a variance is its reciprocal root. -/
theorem pow_var (g : Fin 512) (k : Fin 224) (v e p : EReal) (hv : v = ((var b X M g k : ℝ) : EReal)) (he : e = ((eps : ℝ) : EReal))
    (hp : p = ((-(1 / 2) : ℝ) : EReal)) : Ideal.pow (v + e) p = ((rstd b X M g k : ℝ) : EReal) := by
  have h0 : 0 ≤ var b X M g k + eps := (add_pos_of_nonneg_of_pos (var_nonneg b X M g k) eps_pos).le
  rw [hv, he, hp, ← EReal.coe_add]
  show ((Real.rpow (var b X M g k + eps) (-(1 / 2)) : ℝ) : EReal) = _
  refine congrArg _ ?_
  rw [Real.rpow_eq_pow, Real.rpow_neg h0, ← Real.sqrt_eq_rpow]
  rfl

/-- The tables of the graphs' means. -/
theorem means (H : Given V0 b X M W β) (g : Fin 512) (c : Fin 480) :
    (res_main_v11 V0 : S512x480.Idx → EReal) (ix2 g c) = ((mean b X g c : ℝ) : EReal) := by
  pointwise [res_main_v11, scatter_S512x480_S50000x1_S50000x480_1_0_0_1, scatter_S512_S50000x1_S50000_n_0_0_1]
  rw [add2, add1]
  pointwise
  simp only [H.words, H.rows]
  rw [count_of]
  unfold mean
  rw [← div_coe _ _ (count_ne g), ← seg_coe]
  unfold seg
  with_reducible rfl

/-- The row numbers the reference takes by: a graph word is not negative, so it stands as it is. -/
theorem wrapped (H : Given V0 b X M W β) (n : Fin 50000) (g : Fin 512) (h : (b n).toNat = g.val) :
    ((broadcastInDim S50000x1 ![0] bcast_S50000_S50000x1_0
      (select (cmpi CmpIPredicate.slt (V0 (Proc.tc.devRef main_arg1)) (broadcastInDim S50000 ![] bcast_S_S50000 (constantI S_ 32 0#32)))
        (addi (V0 (Proc.tc.devRef main_arg1)) (broadcastInDim S50000 ![] bcast_S_S50000 (constantI S_ 32 512#32)))
        (V0 (Proc.tc.devRef main_arg1))) : IVec S50000x1 32) (ix2 n 0)).toNat = g.val := by
  pointwise
  have hs := H.small n
  simp only [H.words]
  rw [Routing.wrap_of_lt _ _ (by omega), h]

/-- The channel of a column of the first kind. -/
theorem chan_1 (k : Fin 128) (h) : chan ⟨k.val, h⟩ = ⟨k.val, by omega⟩ := by
  unfold chan
  rw [dif_pos (by show k.val < 128; omega)]
/-- The channel of a column of the second kind. -/
theorem chan_2 (k : Fin 64) (j : Fin 3) (h) : chan ⟨128 + (k.val * 3 + j.val), h⟩ = ⟨128 + k.val, by omega⟩ := by
  unfold chan
  rw [dif_neg (by show ¬ 128 + (k.val * 3 + j.val) < 128; omega), dif_pos (by show 128 + (k.val * 3 + j.val) < 320; omega)]
  exact Fin.ext (by show 128 + (128 + (k.val * 3 + j.val) - 128) / 3 = 128 + k.val; omega)
/-- The channel of a column of the third kind. -/
theorem chan_3 (k : Fin 32) (j : Fin 5) (h) : chan ⟨320 + (k.val * 5 + j.val), h⟩ = ⟨192 + k.val, by omega⟩ := by
  unfold chan
  rw [dif_neg (by show ¬ 320 + (k.val * 5 + j.val) < 128; omega), dif_neg (by show ¬ 320 + (k.val * 5 + j.val) < 320; omega)]
  exact Fin.ext (by show 192 + (320 + (k.val * 5 + j.val) - 320) / 5 = 192 + k.val; omega)

/-- The field of a row in a column, from its parts. -/
theorem field_parts (n : Fin 50000) (g : Fin 512) (c : Fin 480) (k : Fin 224) (hk : chan c = k) :
    ((X n c : ℝ) : EReal) - ((mean b X g c : ℝ) : EReal) * ((M k : ℝ) : EReal) = ((field b X M g n c : ℝ) : EReal) := by
  rw [← EReal.coe_mul, ← EReal.coe_sub, ← hk]
  rfl

/-- The field in the columns of the first kind. -/
theorem field1 (H : Given V0 b X M W β) (n : Fin 50000) (k : Fin 128) (j : Fin 1) (g : Fin 512) (h : (b n).toNat = g.val) :
    (res_main_v26 V0 : S50000x128x1.Idx → EReal) (ix3 n k j) = ((field b X M g n ⟨k.val + j.val, by omega⟩ : ℝ) : EReal) := by
  pointwise [res_main_v26, gather_S512x128x1_S50000x1_S50000x128x1_12_0_n_n_0_1_11281]
  rw [take3 _ rfl _ _ _ _ _ _ g (wrapped H n g h)]
  pointwise
  rw [H.rows, H.shift, means H]
  exact field_parts n g _ _ (chan_1 k _)
/-- The field in the columns of the second kind. -/
theorem field2 (H : Given V0 b X M W β) (n : Fin 50000) (k : Fin 64) (j : Fin 3) (g : Fin 512) (h : (b n).toNat = g.val) :
    (res_main_v77 V0 : S50000x64x3.Idx → EReal) (ix3 n k j) = ((field b X M g n ⟨128 + (k.val * 3 + j.val), by omega⟩ : ℝ) : EReal) := by
  pointwise [res_main_v77, gather_S512x64x3_S50000x1_S50000x64x3_12_0_n_n_0_1_1643]
  rw [take3 _ rfl _ _ _ _ _ _ g (wrapped H n g h)]
  pointwise
  rw [H.rows, H.shift, means H]
  exact field_parts n g _ _ (chan_2 k j _)
/-- The field in the columns of the third kind. -/
theorem field3 (H : Given V0 b X M W β) (n : Fin 50000) (k : Fin 32) (j : Fin 5) (g : Fin 512) (h : (b n).toNat = g.val) :
    (res_main_v126 V0 : S50000x32x5.Idx → EReal) (ix3 n k j) = ((field b X M g n ⟨320 + (k.val * 5 + j.val), by omega⟩ : ℝ) : EReal) := by
  pointwise [res_main_v126, gather_S512x32x5_S50000x1_S50000x32x5_12_0_n_n_0_1_1325]
  rw [take3 _ rfl _ _ _ _ _ _ g (wrapped H n g h)]
  pointwise
  rw [H.rows, H.shift, means H]
  exact field_parts n g _ _ (chan_3 k j _)

/-- The widths of the three kinds. -/
theorem width_1 (k : Fin 128) (h) : width ⟨k.val, h⟩ = 1 := by unfold width; rw [if_pos k.isLt]
/-- The second. -/
theorem width_2 (k : Fin 64) (h) : width ⟨128 + k.val, h⟩ = 3 := by
  unfold width; rw [if_neg (by show ¬ 128 + k.val < 128; omega), if_pos (by show 128 + k.val < 192; omega)]
/-- The third. -/
theorem width_3 (k : Fin 32) (h) : width ⟨192 + k.val, h⟩ = 5 := by
  unfold width; rw [if_neg (by show ¬ 192 + k.val < 128; omega), if_neg (by show ¬ 192 + k.val < 192; omega)]

/-- The three pieces of the result, side by side: the first. -/
theorem piece1 (u : S50000x128.Idx → EReal) (v : S50000x192.Idx → EReal) (w : S50000x160.Idx → EReal) (n : Fin 50000) (q : Fin 128) (h) :
    (fn_main_v161 (F := Ideal) u v w : S50000x480.Idx → EReal) (ix2 n ⟨q.val, h⟩) = u (ix2 n q) := by
  pointwise [fn_main_v161]
/-- The second. -/
theorem piece2 (u : S50000x128.Idx → EReal) (v : S50000x192.Idx → EReal) (w : S50000x160.Idx → EReal) (n : Fin 50000) (q : Fin 192) (h) :
    (fn_main_v161 (F := Ideal) u v w : S50000x480.Idx → EReal) (ix2 n ⟨128 + q.val, h⟩) = v (ix2 n q) := by
  pointwise [fn_main_v161]
/-- The third. -/
theorem piece3 (u : S50000x128.Idx → EReal) (v : S50000x192.Idx → EReal) (w : S50000x160.Idx → EReal) (n : Fin 50000) (q : Fin 160) (h) :
    (fn_main_v161 (F := Ideal) u v w : S50000x480.Idx → EReal) (ix2 n ⟨320 + q.val, h⟩) = w (ix2 n q) := by
  pointwise [fn_main_v161]
  rw [dif_neg (by omega), dif_neg (by omega)]
  exact congrArg w (congrArg (ix2 n) (Fin.ext (by show 320 + q.val - 128 - 192 = q.val; omega)))

/-- The result in the columns of the first kind. -/
theorem out1 (H : Given V0 b X M W β) (n : Fin 50000) (k : Fin 128) (g : Fin 512) (h : (b n).toNat = g.val) :
    (res_main_v161 V0 : S50000x480.Idx → EReal) (ix2 n ⟨k.val, by omega⟩) = out b X M W β g n ⟨k.val, by omega⟩ := by
  refine (piece1 _ _ _ n k _).trans ?_
  pointwise
  unfold gather_S512x128_S50000x1_S50000x128_1_0_n_n_0_1_1128
  rw [take2 _ rfl _ _ _ _ _ g (wrapped H n g h)]
  pointwise [scatter_S512x128_S50000x1_S50000x128_1_0_0_1, scatter_S512_S50000x1_S50000_n_0_0_1]
  rw [add2, add1]
  pointwise
  simp only [H.words]
  rw [pow_var g ⟨k.val, by omega⟩ _ _ _ (var_of g ⟨k.val, by omega⟩ (fun n j => res_main_v26 V0 (ix3 n k j)) _
    (fun n j hn => field1 H n k j g hn) (fun φ => sum_chan1 φ k) _ (by rw [width_1, EReal.coe_one])) ofBits_eps ofBits_neg_half,
    field1 H n k 0 g h, H.weight, H.bias]
  unfold out
  rw [chan_1]
  rfl
/-- The result in the columns of the second kind. -/
theorem out2 (H : Given V0 b X M W β) (n : Fin 50000) (k : Fin 64) (j : Fin 3) (g : Fin 512) (h : (b n).toNat = g.val) :
    (res_main_v161 V0 : S50000x480.Idx → EReal) (ix2 n ⟨128 + (k.val * 3 + j.val), by omega⟩)
      = out b X M W β g n ⟨128 + (k.val * 3 + j.val), by omega⟩ := by
  refine (piece2 _ _ _ n ⟨k.val * 3 + j.val, by omega⟩ _).trans ?_
  pointwise
  unfold gather_S512x64_S50000x1_S50000x64_1_0_n_n_0_1_164
  rw [take2 _ rfl _ _ _ _ _ g (wrapped H n g h)]
  pointwise [scatter_S512x64_S50000x1_S50000x64_1_0_0_1, scatter_S512_S50000x1_S50000_n_0_0_1]
  rw [add2, add1]
  pointwise
  simp only [H.words]
  rw [pow_var g ⟨128 + k.val, by omega⟩ _ _ _ (var_of g ⟨128 + k.val, by omega⟩ (fun n j => res_main_v77 V0 (ix3 n k j)) _
    (fun n j hn => field2 H n k j g hn) (fun φ => sum_chan3 φ k) _ (by rw [width_2]; exact ofBits_three)) ofBits_eps ofBits_neg_half,
    field2 H n k j g h, H.weight]
  unfold out
  rw [chan_2, H.none _ (by show ¬ 128 + (k.val * 3 + j.val) < 128; omega), add_zero]
/-- The result in the columns of the third kind. -/
theorem out3 (H : Given V0 b X M W β) (n : Fin 50000) (k : Fin 32) (j : Fin 5) (g : Fin 512) (h : (b n).toNat = g.val) :
    (res_main_v161 V0 : S50000x480.Idx → EReal) (ix2 n ⟨320 + (k.val * 5 + j.val), by omega⟩)
      = out b X M W β g n ⟨320 + (k.val * 5 + j.val), by omega⟩ := by
  refine (piece3 _ _ _ n ⟨k.val * 5 + j.val, by omega⟩ _).trans ?_
  pointwise
  unfold gather_S512x32_S50000x1_S50000x32_1_0_n_n_0_1_132
  rw [take2 _ rfl _ _ _ _ _ g (wrapped H n g h)]
  pointwise [scatter_S512x32_S50000x1_S50000x32_1_0_0_1, scatter_S512_S50000x1_S50000_n_0_0_1]
  rw [add2, add1]
  pointwise
  simp only [H.words]
  rw [pow_var g ⟨192 + k.val, by omega⟩ _ _ _ (var_of g ⟨192 + k.val, by omega⟩ (fun n j => res_main_v126 V0 (ix3 n k j)) _
    (fun n j hn => field3 H n k j g hn) (fun φ => sum_chan5 φ k) _ (by rw [width_3]; exact ofBits_five)) ofBits_eps ofBits_neg_half,
    field3 H n k j g h, H.weight]
  unfold out
  rw [chan_3, H.none _ (by show ¬ 320 + (k.val * 5 + j.val) < 128; omega), add_zero]

/-- The result at any row and column. -/
theorem entry (H : Given V0 b X M W β) (n : Fin 50000) (c : Fin 480) (g : Fin 512) (h : (b n).toNat = g.val) :
    (res_main_v161 V0 : S50000x480.Idx → EReal) (ix2 n c) = out b X M W β g n c := by
  have hc := c.isLt
  by_cases h1 : c.val < 128
  · exact out1 H n ⟨c.val, h1⟩ g h
  by_cases h2 : c.val < 320
  · have e : c = ⟨128 + ((c.val - 128) / 3 * 3 + (c.val - 128) % 3), by omega⟩ :=
      Fin.ext (by show c.val = 128 + ((c.val - 128) / 3 * 3 + (c.val - 128) % 3); omega)
    rw [e]
    exact out2 H n ⟨(c.val - 128) / 3, by omega⟩ ⟨(c.val - 128) % 3, by omega⟩ g h
  · have e : c = ⟨320 + ((c.val - 320) / 5 * 5 + (c.val - 320) % 5), by omega⟩ :=
      Fin.ext (by show c.val = 320 + ((c.val - 320) / 5 * 5 + (c.val - 320) % 5); omega)
    rw [e]
    exact out3 H n ⟨(c.val - 320) / 5, by omega⟩ ⟨(c.val - 320) % 5, by omega⟩ g h

end Cert.ReferenceIdeal.Value

end
-- ==== Proof.Equal.lean ====
/- The kernel's result and the reference's are equal, entry by entry. -/
module

public import proofs.«01_k».proof.Proof.KernelIdeal.Result
public import proofs.«01_k».proof.Proof.ReferenceIdeal.Entry

@[expose] public section

noncomputable section

namespace Cert.GraphNorm

open Idealize.ShloMosaic Idealize.ShloMosaic.TcCoe

/-- The shape of the kernel's and of the reference's result. -/
abbrev Out : Shape := ⟨2, ![50000, 480]⟩

/-- From equal arguments, rows and shifts real and graph words below 512, the two results are equal. -/
theorem results_equal (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V0 : Valuation Cert.ReferenceIdeal.τ Cert.ReferenceIdeal.sig (Elt Ideal))
    (a0 : Out.Idx → EReal) (a1 : (⟨1, ![50000]⟩ : Shape).Idx → BitVec 32) (a2 : (⟨3, ![1, 224, 1]⟩ : Shape).Idx → EReal)
    (a3 : (⟨2, ![1, 224]⟩ : Shape).Idx → EReal) (a4 : (⟨2, ![1, 128]⟩ : Shape).Idx → EReal)
    (k0 : m ((c.tc : Thread Cert.KernelIdeal.nD Cert.KernelIdeal.τ).loc Cert.KernelIdeal.main_arg0) = a0)
    (k1 : m ((c.tc : Thread Cert.KernelIdeal.nD Cert.KernelIdeal.τ).loc Cert.KernelIdeal.main_arg1) = a1)
    (k2 : m ((c.tc : Thread Cert.KernelIdeal.nD Cert.KernelIdeal.τ).loc Cert.KernelIdeal.main_arg2) = a2)
    (k3 : m ((c.tc : Thread Cert.KernelIdeal.nD Cert.KernelIdeal.τ).loc Cert.KernelIdeal.main_arg3) = a3)
    (k4 : m ((c.tc : Thread Cert.KernelIdeal.nD Cert.KernelIdeal.τ).loc Cert.KernelIdeal.main_arg4) = a4)
    (r0 : V0 ↑Cert.ReferenceIdeal.main_arg0 = a0) (r1 : V0 ↑Cert.ReferenceIdeal.main_arg1 = a1)
    (r2 : V0 ↑Cert.ReferenceIdeal.main_arg2 = a2) (r3 : V0 ↑Cert.ReferenceIdeal.main_arg3 = a3)
    (r4 : V0 ↑Cert.ReferenceIdeal.main_arg4 = a4)
    (f0 : ∀ i, (((a0 i).toReal : ℝ) : EReal) = a0 i) (f2 : ∀ i, (((a2 i).toReal : ℝ) : EReal) = a2 i) (small : ∀ i, (a1 i).toNat < 512) :
    (Cert.ReferenceIdeal.Value.res_main_v161 V0 : Out.Idx → EReal)
      = ((Cert.KernelIdeal.Gen.dat1 (Cert.KernelIdeal.Whole.B2 m ρ) c).arrAt 5 Cert.KernelIdeal.cfg1.N : Out.Idx → EReal) := by
  let β : Fin 480 → EReal := fun k => if h : k.val < 128 then a4 (ix2 0 ⟨k.val, h⟩) else 0
  have hβ : ∀ k : Fin 128, a4 (ix2 0 k) = β ⟨k.val, by omega⟩ := fun k =>
    (dif_pos (c := k.val < 128) (t := fun h => a4 (ix2 0 ⟨k.val, h⟩)) (e := fun _ => (0 : EReal)) k.isLt).symm
  have HR : Cert.ReferenceIdeal.Value.Given V0 (fun n => a1 (ix1 n)) (fun n k => (a0 (ix2 n k)).toReal) (fun k => (a2 (ix3 0 k 0)).toReal)
      (fun k => a3 (ix2 0 k)) β :=
    ⟨fun n => congrFun r1 (ix1 n), fun n => small (ix1 n), fun n k => (congrFun r0 (ix2 n k)).trans (f0 _).symm,
      fun k => (congrFun r2 (ix3 0 k 0)).trans (f2 _).symm, fun k => congrFun r3 (ix2 0 k),
      fun k => (congrFun r4 (ix2 0 k)).trans (hβ k), fun k h => dif_neg h⟩
  have HK : Cert.KernelIdeal.Value.Given m c (fun n => a1 (ix1 n)) (fun n k => (a0 (ix2 n k)).toReal) (fun k => (a2 (ix3 0 k 0)).toReal)
      (fun k => a3 (ix2 0 k)) β :=
    ⟨fun n => congrFun k1 (ix1 n), fun n k => (congrFun k0 (ix2 n k)).trans (f0 _).symm,
      fun k => (congrFun k2 (ix3 0 k 0)).trans (f2 _).symm, fun k => congrFun k3 (ix2 0 k),
      fun k => (congrFun k4 (ix2 0 k)).trans (hβ k), fun k h => dif_neg h⟩
  funext i
  rw [eq_ix2 i]
  exact (Cert.ReferenceIdeal.Value.entry HR (i 0) (i 1) ⟨(a1 (ix1 (i 0))).toNat, small _⟩ rfl).trans
    (Cert.KernelIdeal.Value.entry ρ HK (i 0) (i 1) ⟨(a1 (ix1 (i 0))).toNat, small _⟩ rfl).symm

end Cert.GraphNorm

end
-- ==== Proof.lean ====
/- The certificate's claims, assembled from the modules under Proof/. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Inputs
public import proofs.«01_k».proof.Proof.Equal

@[expose] public section

noncomputable section

namespace Cert.Proof

open Idealize.ShloMosaic Idealize.SL.Sem

/-- The kernel on words runs, keeps its arguments and leaves every counter at zero. -/
theorem frame_kernel : Cert.quiescent_Kernel (hKernel := Cert.Kernel.Gen.facts) :=
  fun m g _ => Cert.Kernel.Whole.frame m g

/-- The kernel on extended reals runs, keeps its arguments and leaves every counter at zero. -/
theorem frame_ideal : Cert.quiescent_KernelIdeal (hKernelIdeal := Cert.KernelIdeal.Gen.facts) :=
  fun m g _ => Cert.KernelIdeal.Whole.frame m g

/-- The same under the precondition. -/
theorem frame_ideal_pre : Cert.quiescent_KernelIdeal_pre_inputs_ok (hKernelIdeal := Cert.KernelIdeal.Gen.facts)
    (hPre_inputs_ok := Cert.Pre_inputs_ok.facts) :=
  fun m g _ => Cert.KernelIdeal.Whole.frame m g

/-- The reference runs, keeps its arguments and leaves every counter at zero: it has no counters. -/
theorem frame_reference : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩)
    (Cert.ReferenceIdeal.Value.run m g)

/-- The same under the precondition. -/
theorem frame_reference_pre : Cert.quiescent_ReferenceIdeal_pre_inputs_ok (hReferenceIdeal := Cert.ReferenceIdeal.Gen.facts)
    (hPre_inputs_ok := Cert.Pre_inputs_ok.facts) :=
  fun m g _ => frame_reference m g trivial

/-- From arguments that meet the precondition, the kernel on extended reals and the reference end with equal results. -/
theorem algebraic : Cert.algebraic_KernelIdeal_ReferenceIdeal_pre_inputs_ok (hKernelIdeal := Cert.KernelIdeal.Gen.facts)
    (hReferenceIdeal := Cert.ReferenceIdeal.Gen.facts) (hPre_inputs_ok := Cert.Pre_inputs_ok.facts) := by
  intro m g m' g' hpre hargs
  refine ⟨fun c => (Cert.KernelIdeal.Gen.dat1 (Cert.KernelIdeal.Whole.B2 m g) c).arrAt 5 Cert.KernelIdeal.cfg1.N,
    Cert.KernelIdeal.Whole.result m g, (θ_run _ _ _).mono (fun r h c => ⟨(h c).1.trans ?_, (h c).2⟩) (Cert.ReferenceIdeal.Value.run m' g')⟩
  obtain ⟨p0, p1, p2, p3⟩ := hpre c
  obtain ⟨e0, e1, e2, e3, e4⟩ := hargs c
  exact Cert.GraphNorm.results_equal m g c (StableHlo.launchContents m' c) _ _ _ _ _ rfl rfl rfl rfl rfl e0 e1 e2 e3 e4
    (letI := Cert.Pre_inputs_ok.facts; Cert.Pre_inputs_ok.rows_real _ _ _ _ _ p0)
    (letI := Cert.Pre_inputs_ok.facts; Cert.Pre_inputs_ok.shifts_real _ _ _ _ _ p3)
    (letI := Cert.Pre_inputs_ok.facts; Cert.Pre_inputs_ok.words_small _ _ _ _ _ p1 p2)

/-- All the claims. -/
theorem claim : Cert.Claim := ⟨Cert.Kernel.Gen.facts, Cert.KernelIdeal.Gen.facts, Cert.ReferenceIdeal.Gen.facts, Cert.Pre_inputs_ok.facts,
  frame_kernel, frame_ideal, frame_ideal_pre, frame_reference, frame_reference_pre, trivial, algebraic⟩

end Cert.Proof

end
